-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v7) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hAda : Cert.Ada.Facts) (hAdaIdeal : Cert.AdaIdeal.Facts) (hAdaRefIdeal : Cert.AdaRefIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ada (hAda := hAda)
    ∧ quiescent_AdaIdeal (hAdaIdeal := hAdaIdeal)
    ∧ quiescent_AdaRefIdeal (hAdaRefIdeal := hAdaRefIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Ada_AdaIdeal
    ∧ algebraic_AdaIdeal_AdaRefIdeal (hAdaIdeal := hAdaIdeal) (hAdaRefIdeal := hAdaRefIdeal)
-- ==== Pre_finite_inputs.lean ====
abbrev S16384x10240 : Shape := ⟨2, ![16384, 10240]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S16384x10240 : S_.BroadcastsInDim S16384x10240 (![] : Fin 0 → Fin S16384x10240.rank)
  bcast_S_S1x64 : S_.BroadcastsInDim S1x64 (![] : Fin 0 → Fin S1x64.rank)

variable [Facts]

def fn {F : FTy → Type} [FloatOps F] (main_arg0 : FVec F S16384x10240 .bf16) (main_arg1 : FVec F S1x64 .f32) (main_arg2 : FVec F S1x64 .f32) (main_arg3 : FVec F S1x64 .f32) (main_arg4 : FVec F S1x64 .f32) (main_arg5 : FVec F S1x128 .f32) : IVec S16384x10240 1 × IVec S1x64 1 × IVec S1x64 1 × IVec S1x64 1 × IVec S1x64 1 :=
  let main_v0 : FVec F S16384x10240 .f32 := (extf .f32 · bitsLt_bf16_f32) main_arg0
  let main_v1 : FVec F S16384x10240 .f32 := Host.absf main_v0
  let main_cst : FVec F S_ .f32 := constant S_ .f32 0x7F800000#32
  let main_v2 : FVec F S16384x10240 .f32 := broadcastInDim S16384x10240 ![] bcast_S_S16384x10240 main_cst
  let main_v3 : IVec S16384x10240 1 := cmpf .olt main_v1 main_v2
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_v7 : FVec F S1x64 .f32 := Host.absf main_arg2
  let main_cst_1 : FVec F S_ .f32 := constant S_ .f32 0x7F800000#32
  let main_v8 : FVec F S1x64 .f32 := broadcastInDim S1x64 ![] bcast_S_S1x64 main_cst_1
  let main_v9 : IVec S1x64 1 := cmpf .olt main_v7 main_v8
  let main_v10 : FVec F S1x64 .f32 := Host.absf main_arg3
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_v13 : FVec F S1x64 .f32 := Host.absf main_arg4
  let main_cst_3 : FVec F S_ .f32 := constant S_ .f32 0x7F800000#32
  let main_v14 : FVec F S1x64 .f32 := broadcastInDim S1x64 ![] bcast_S_S1x64 main_cst_3
  let main_v15 : IVec S1x64 1 := cmpf .olt main_v13 main_v14
  (main_v3, main_v6, main_v9, main_v12, main_v15)
-- ==== Kernel.lean ====
abbrev S16384x10240 : Shape := ⟨2, ![16384, 10240]⟩
abbrev S1x64 : Shape := ⟨2, ![1, 64]⟩
abbrev S1x128 : Shape := ⟨2, ![1, 128]⟩
abbrev S64 : Shape := ⟨1, ![64]⟩
abbrev S4x64 : Shape := ⟨2, ![4, 64]⟩
abbrev S128 : Shape := ⟨1, ![128]⟩
abbrev S128x1 : Shape := ⟨2, ![128, 1]⟩
abbrev S16384x1024 : Shape := ⟨2, ![16384, 1024]⟩
abbrev S2048x128 : Shape := ⟨2, ![2048, 128]⟩
abbrev S8192x128 : Shape := ⟨2, ![8192, 128]⟩
abbrev S16x144x512 : Shape := ⟨3, ![16, 144, 512]⟩
abbrev S2x1x2048 : Shape := ⟨3, ![2, 1, 2048]⟩
abbrev S2x144x2048 : Shape := ⟨3, ![2, 144, 2048]⟩
abbrev S2x512x2048 : Shape := ⟨3, ![2, 512, 2048]⟩
abbrev S512x128 : Shape := ⟨2, ![512, 128]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩
abbrev S128x2048 : Shape := ⟨2, ![128, 2048]⟩
abbrev S128x256 : Shape := ⟨2, ![128, 256]⟩
abbrev S512x256 : Shape := ⟨2, ![512, 256]⟩
abbrev S1x512x256 : Shape := ⟨3, ![1, 512, 256]⟩
abbrev S256 : Shape := ⟨1, ![256]⟩
abbrev S1x256 : Shape := ⟨2, ![1, 256]⟩
abbrev S1x1x256 : Shape := ⟨3, ![1, 1, 256]⟩
abbrev S1x144x512 : Shape := ⟨3, ![1, 144, 512]⟩
abbrev S144x512 : Shape := ⟨2, ![144, 512]⟩
abbrev S1x144x256 : Shape := ⟨3, ![1, 144, 256]⟩
abbrev S144x256 : Shape := ⟨2, ![144, 256]⟩
abbrev S1 : Shape := ⟨1, ![1]⟩
abbrev S1x1 : Shape := ⟨2, ![1, 1]⟩
abbrev S1x144x2048 : Shape := ⟨3, ![1, 144, 2048]⟩
abbrev S144x2048 : Shape := ⟨2, ![144, 2048]⟩
abbrev S1x2048 : Shape := ⟨2, ![1, 2048]⟩
abbrev S2048 : Shape := ⟨1, ![2048]⟩

abbrev nBuf : Space → Nat
  | .hbm => 18
  | .vmem => 17
  | .smem => 0
  | _ => 0

abbrev bufTy : (tb : Table) → Fin (tcTables nBuf tb) → BufTy
  | .hbm, ⟨0, _⟩ => ⟨S16384x10240, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S4x64, .f32⟩
  | .hbm, ⟨15, _⟩ => ⟨S128, .f32⟩
  | .hbm, ⟨16, _⟩ => ⟨S128x1, .f32⟩
  | .hbm, ⟨17, _⟩ => ⟨S16384x1024, .bf16⟩
  | .local _ .vmem, ⟨0, _⟩ => ⟨S2048x128, .bf16⟩
  | .local _ .vmem, ⟨1, _⟩ => ⟨S2048x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S4x64, .f32⟩
  | .local _ .vmem, ⟨7, _⟩ => ⟨S128x1, .f32⟩
  | .local _ .vmem, ⟨8, _⟩ => ⟨S2048x128, .bf16⟩
  | .local _ .vmem, ⟨9, _⟩ => ⟨S2048x128, .bf16⟩
  | .local _ .vmem, ⟨10, _⟩ => ⟨S16x144x512, .bf16⟩
  | .local _ .vmem, ⟨11, _⟩ => ⟨S2x1x2048, .f32⟩
  | .local _ .vmem, ⟨12, _⟩ => ⟨S2x144x2048, .f32⟩
  | .local _ .vmem, ⟨13, _⟩ => ⟨S2x512x2048, .f32⟩
  | .local _ .vmem, ⟨14, _⟩ => ⟨S2x512x2048, .f32⟩
  | .local _ .vmem, ⟨15, _⟩ => ⟨S2x1x2048, .f32⟩
  | .local _ .vmem, ⟨16, _⟩ => ⟨S2x1x2048, .f32⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 4], ![false, false, false]⟩

def k0_mult1 : BitVec 32 :=
  let c0_i32_12 : BitVec 32 := 0#32
  c0_i32_12
def k0_mult2 : BitVec 32 :=
  let c0_i32_29 : BitVec 32 := 0#32
  c0_i32_29
def k0_mult3 : BitVec 32 :=
  let c0_i32_46 : BitVec 32 := 0#32
  c0_i32_46
def k0_mult4 : BitVec 32 :=
  let c0_i32_63 : BitVec 32 := 0#32
  c0_i32_63
def k0_mult5 : BitVec 32 :=
  let c0_i32_80 : BitVec 32 := 0#32
  c0_i32_80
def k0_mult6 : BitVec 32 :=
  let c0_i32_97 : BitVec 32 := 0#32
  c0_i32_97
def k0_mult7 : BitVec 32 :=
  let c0_i32_114 : BitVec 32 := 0#32
  c0_i32_114
def k0_mult8 : BitVec 32 :=
  let c0_i32_131 : BitVec 32 := 0#32
  c0_i32_131
@[reducible] def k0_t1_loop : Scf.Loop 32 :=
  let c0_i32_148 : BitVec 32 := 0#32
  let c7_i32 : BitVec 32 := 7#32
  let v213 : BitVec 32 := Scalar.addi c0_i32_148 c7_i32
  let c1_i32 : BitVec 32 := 1#32
  ⟨c0_i32_148, v213, c1_i32⟩
def k0_mult9 (k0_t1 : Fin k0_t1_loop.trips) : BitVec 32 :=
  let c0_i32_148 : BitVec 32 := 0#32
  let c1_i32 : BitVec 32 := 1#32
  let arg16 : BitVec 32 := Scf.iv c0_i32_148 c1_i32 k0_t1
  let c2_i32 : BitVec 32 := 2#32
  let v1281 : BitVec 32 := Scalar.muli arg16 c2_i32
  let c0_i32_966 : BitVec 32 := 0#32
  let v1282 : BitVec 32 := Scalar.addi v1281 c0_i32_966
  let c1_i32_967 : BitVec 32 := 1#32
  let v1283 : BitVec 32 := Scalar.addi v1282 c1_i32_967
  let c512_i32 : BitVec 32 := 512#32
  let v1285 : BitVec 32 := Scalar.muli v1283 c512_i32
  v1285
def k0_off1 (k0_t1 : Fin k0_t1_loop.trips) (c0_i32_966 : BitVec 32) : Fin 2 → Nat :=
  let c0_i32_148 : BitVec 32 := 0#32
  let c1_i32 : BitVec 32 := 1#32
  let arg16 : BitVec 32 := Scf.iv c0_i32_148 c1_i32 k0_t1
  let c2_i32 : BitVec 32 := 2#32
  let v1281 : BitVec 32 := Scalar.muli arg16 c2_i32
  let v1282 : BitVec 32 := Scalar.addi v1281 c0_i32_966
  let c1_i32_967 : BitVec 32 := 1#32
  let v1283 : BitVec 32 := Scalar.addi v1282 c1_i32_967
  let c512_i32 : BitVec 32 := 512#32
  let v1285 : BitVec 32 := Scalar.muli v1283 c512_i32
  let v1286 : BitVec 32 := v1285
  let v1287 : Index := Scalar.indexCast v1286
  let c0_969 : Index := 0#32
  ![v1287.toNat, 0]
def k0_off2 (k0_t1 : Fin k0_t1_loop.trips) (c0_i32_968 : BitVec 32) : Fin 3 → Nat :=
  let c0_i32_148 : BitVec 32 := 0#32
  let c1_i32 : BitVec 32 := 1#32
  let arg16 : BitVec 32 := Scf.iv c0_i32_148 c1_i32 k0_t1
  let c2_i32 : BitVec 32 := 2#32
  let v1281 : BitVec 32 := Scalar.muli arg16 c2_i32
  let v1284 : BitVec 32 := Scalar.addi v1281 c0_i32_968
  let v1309 : Index := Scalar.indexCast v1284
  let c0_986 : Index := 0#32
  let c0_987 : Index := 0#32
  ![v1309.toNat, 0, 0]
def k0_mult10 (k0_t1 : Fin k0_t1_loop.trips) : BitVec 32 :=
  let c0_i32_148 : BitVec 32 := 0#32
  let c1_i32 : BitVec 32 := 1#32
  let arg16 : BitVec 32 := Scf.iv c0_i32_148 c1_i32 k0_t1
  let c2_i32 : BitVec 32 := 2#32
  let v1281 : BitVec 32 := Scalar.muli arg16 c2_i32
  let c0_i32_966 : BitVec 32 := 0#32
  let v1282 : BitVec 32 := Scalar.addi v1281 c0_i32_966
  let c1_i32_967 : BitVec 32 := 1#32
  let v1283 : BitVec 32 := Scalar.addi v1282 c1_i32_967
  let c512_i32_1026 : BitVec 32 := 512#32
  let v1362 : BitVec 32 := Scalar.muli v1283 c512_i32_1026
  v1362
def k0_mult11 (k0_t1 : Fin k0_t1_loop.trips) : BitVec 32 :=
  let c0_i32_148 : BitVec 32 := 0#32
  let c1_i32 : BitVec 32 := 1#32
  let arg16 : BitVec 32 := Scf.iv c0_i32_148 c1_i32 k0_t1
  let c2_i32 : BitVec 32 := 2#32
  let v1281 : BitVec 32 := Scalar.muli arg16 c2_i32
  let c0_i32_966 : BitVec 32 := 0#32
  let v1282 : BitVec 32 := Scalar.addi v1281 c0_i32_966
  let c1_i32_967 : BitVec 32 := 1#32
  let v1283 : BitVec 32 := Scalar.addi v1282 c1_i32_967
  let c512_i32_1084 : BitVec 32 := 512#32
  let v1439 : BitVec 32 := Scalar.muli v1283 c512_i32_1084
  v1439
def k0_mult12 (k0_t1 : Fin k0_t1_loop.trips) : BitVec 32 :=
  let c0_i32_148 : BitVec 32 := 0#32
  let c1_i32 : BitVec 32 := 1#32
  let arg16 : BitVec 32 := Scf.iv c0_i32_148 c1_i32 k0_t1
  let c2_i32 : BitVec 32 := 2#32
  let v1281 : BitVec 32 := Scalar.muli arg16 c2_i32
  let c0_i32_966 : BitVec 32 := 0#32
  let v1282 : BitVec 32 := Scalar.addi v1281 c0_i32_966
  let c1_i32_967 : BitVec 32 := 1#32
  let v1283 : BitVec 32 := Scalar.addi v1282 c1_i32_967
  let c512_i32_1142 : BitVec 32 := 512#32
  let v1516 : BitVec 32 := Scalar.muli v1283 c512_i32_1142
  v1516
def k0_mult13 (k0_t1 : Fin k0_t1_loop.trips) : BitVec 32 :=
  let c0_i32_148 : BitVec 32 := 0#32
  let c1_i32 : BitVec 32 := 1#32
  let arg16 : BitVec 32 := Scf.iv c0_i32_148 c1_i32 k0_t1
  let c2_i32 : BitVec 32 := 2#32
  let v1281 : BitVec 32 := Scalar.muli arg16 c2_i32
  let c0_i32_966 : BitVec 32 := 0#32
  let v1282 : BitVec 32 := Scalar.addi v1281 c0_i32_966
  let c1_i32_967 : BitVec 32 := 1#32
  let v1283 : BitVec 32 := Scalar.addi v1282 c1_i32_967
  let c512_i32_1200 : BitVec 32 := 512#32
  let v1593 : BitVec 32 := Scalar.muli v1283 c512_i32_1200
  v1593
def k0_mult14 (k0_t1 : Fin k0_t1_loop.trips) : BitVec 32 :=
  let c0_i32_148 : BitVec 32 := 0#32
  let c1_i32 : BitVec 32 := 1#32
  let arg16 : BitVec 32 := Scf.iv c0_i32_148 c1_i32 k0_t1
  let c2_i32 : BitVec 32 := 2#32
  let v1281 : BitVec 32 := Scalar.muli arg16 c2_i32
  let c0_i32_966 : BitVec 32 := 0#32
  let v1282 : BitVec 32 := Scalar.addi v1281 c0_i32_966
  let c1_i32_967 : BitVec 32 := 1#32
  let v1283 : BitVec 32 := Scalar.addi v1282 c1_i32_967
  let c512_i32_1258 : BitVec 32 := 512#32
  let v1670 : BitVec 32 := Scalar.muli v1283 c512_i32_1258
  v1670
def k0_mult15 (k0_t1 : Fin k0_t1_loop.trips) : BitVec 32 :=
  let c0_i32_148 : BitVec 32 := 0#32
  let c1_i32 : BitVec 32 := 1#32
  let arg16 : BitVec 32 := Scf.iv c0_i32_148 c1_i32 k0_t1
  let c2_i32 : BitVec 32 := 2#32
  let v1281 : BitVec 32 := Scalar.muli arg16 c2_i32
  let c0_i32_966 : BitVec 32 := 0#32
  let v1282 : BitVec 32 := Scalar.addi v1281 c0_i32_966
  let c1_i32_967 : BitVec 32 := 1#32
  let v1283 : BitVec 32 := Scalar.addi v1282 c1_i32_967
  let c512_i32_1316 : BitVec 32 := 512#32
  let v1747 : BitVec 32 := Scalar.muli v1283 c512_i32_1316
  v1747
def k0_mult16 (k0_t1 : Fin k0_t1_loop.trips) : BitVec 32 :=
  let c0_i32_148 : BitVec 32 := 0#32
  let c1_i32 : BitVec 32 := 1#32
  let arg16 : BitVec 32 := Scf.iv c0_i32_148 c1_i32 k0_t1
  let c2_i32 : BitVec 32 := 2#32
  let v1281 : BitVec 32 := Scalar.muli arg16 c2_i32
  let c0_i32_966 : BitVec 32 := 0#32
  let v1282 : BitVec 32 := Scalar.addi v1281 c0_i32_966
  let c1_i32_967 : BitVec 32 := 1#32
  let v1283 : BitVec 32 := Scalar.addi v1282 c1_i32_967
  let c512_i32_1374 : BitVec 32 := 512#32
  let v1824 : BitVec 32 := Scalar.muli v1283 c512_i32_1374
  v1824
def k0_mult17 (k0_t1 : Fin k0_t1_loop.trips) : BitVec 32 :=
  let c0_i32_148 : BitVec 32 := 0#32
  let c1_i32 : BitVec 32 := 1#32
  let arg16 : BitVec 32 := Scf.iv c0_i32_148 c1_i32 k0_t1
  let c2_i32 : BitVec 32 := 2#32
  let v1281 : BitVec 32 := Scalar.muli arg16 c2_i32
  let c1_i32_1432 : BitVec 32 := 1#32
  let v1901 : BitVec 32 := Scalar.addi v1281 c1_i32_1432
  let c1_i32_1433 : BitVec 32 := 1#32
  let v1902 : BitVec 32 := Scalar.addi v1901 c1_i32_1433
  let c512_i32_1435 : BitVec 32 := 512#32
  let v1904 : BitVec 32 := Scalar.muli v1902 c512_i32_1435
  v1904
def k0_mult18 (k0_t1 : Fin k0_t1_loop.trips) : BitVec 32 :=
  let c0_i32_148 : BitVec 32 := 0#32
  let c1_i32 : BitVec 32 := 1#32
  let arg16 : BitVec 32 := Scf.iv c0_i32_148 c1_i32 k0_t1
  let c2_i32 : BitVec 32 := 2#32
  let v1281 : BitVec 32 := Scalar.muli arg16 c2_i32
  let c1_i32_1432 : BitVec 32 := 1#32
  let v1901 : BitVec 32 := Scalar.addi v1281 c1_i32_1432
  let c1_i32_1433 : BitVec 32 := 1#32
  let v1902 : BitVec 32 := Scalar.addi v1901 c1_i32_1433
  let c512_i32_1493 : BitVec 32 := 512#32
  let v1981 : BitVec 32 := Scalar.muli v1902 c512_i32_1493
  v1981
def k0_mult19 (k0_t1 : Fin k0_t1_loop.trips) : BitVec 32 :=
  let c0_i32_148 : BitVec 32 := 0#32
  let c1_i32 : BitVec 32 := 1#32
  let arg16 : BitVec 32 := Scf.iv c0_i32_148 c1_i32 k0_t1
  let c2_i32 : BitVec 32 := 2#32
  let v1281 : BitVec 32 := Scalar.muli arg16 c2_i32
  let c1_i32_1432 : BitVec 32 := 1#32
  let v1901 : BitVec 32 := Scalar.addi v1281 c1_i32_1432
  let c1_i32_1433 : BitVec 32 := 1#32
  let v1902 : BitVec 32 := Scalar.addi v1901 c1_i32_1433
  let c512_i32_1551 : BitVec 32 := 512#32
  let v2058 : BitVec 32 := Scalar.muli v1902 c512_i32_1551
  v2058
def k0_mult20 (k0_t1 : Fin k0_t1_loop.trips) : BitVec 32 :=
  let c0_i32_148 : BitVec 32 := 0#32
  let c1_i32 : BitVec 32 := 1#32
  let arg16 : BitVec 32 := Scf.iv c0_i32_148 c1_i32 k0_t1
  let c2_i32 : BitVec 32 := 2#32
  let v1281 : BitVec 32 := Scalar.muli arg16 c2_i32
  let c1_i32_1432 : BitVec 32 := 1#32
  let v1901 : BitVec 32 := Scalar.addi v1281 c1_i32_1432
  let c1_i32_1433 : BitVec 32 := 1#32
  let v1902 : BitVec 32 := Scalar.addi v1901 c1_i32_1433
  let c512_i32_1609 : BitVec 32 := 512#32
  let v2135 : BitVec 32 := Scalar.muli v1902 c512_i32_1609
  v2135
def k0_mult21 (k0_t1 : Fin k0_t1_loop.trips) : BitVec 32 :=
  let c0_i32_148 : BitVec 32 := 0#32
  let c1_i32 : BitVec 32 := 1#32
  let arg16 : BitVec 32 := Scf.iv c0_i32_148 c1_i32 k0_t1
  let c2_i32 : BitVec 32 := 2#32
  let v1281 : BitVec 32 := Scalar.muli arg16 c2_i32
  let c1_i32_1432 : BitVec 32 := 1#32
  let v1901 : BitVec 32 := Scalar.addi v1281 c1_i32_1432
  let c1_i32_1433 : BitVec 32 := 1#32
  let v1902 : BitVec 32 := Scalar.addi v1901 c1_i32_1433
  let c512_i32_1667 : BitVec 32 := 512#32
  let v2212 : BitVec 32 := Scalar.muli v1902 c512_i32_1667
  v2212
def k0_mult22 (k0_t1 : Fin k0_t1_loop.trips) : BitVec 32 :=
  let c0_i32_148 : BitVec 32 := 0#32
  let c1_i32 : BitVec 32 := 1#32
  let arg16 : BitVec 32 := Scf.iv c0_i32_148 c1_i32 k0_t1
  let c2_i32 : BitVec 32 := 2#32
  let v1281 : BitVec 32 := Scalar.muli arg16 c2_i32
  let c1_i32_1432 : BitVec 32 := 1#32
  let v1901 : BitVec 32 := Scalar.addi v1281 c1_i32_1432
  let c1_i32_1433 : BitVec 32 := 1#32
  let v1902 : BitVec 32 := Scalar.addi v1901 c1_i32_1433
  let c512_i32_1725 : BitVec 32 := 512#32
  let v2289 : BitVec 32 := Scalar.muli v1902 c512_i32_1725
  v2289
def k0_mult23 (k0_t1 : Fin k0_t1_loop.trips) : BitVec 32 :=
  let c0_i32_148 : BitVec 32 := 0#32
  let c1_i32 : BitVec 32 := 1#32
  let arg16 : BitVec 32 := Scf.iv c0_i32_148 c1_i32 k0_t1
  let c2_i32 : BitVec 32 := 2#32
  let v1281 : BitVec 32 := Scalar.muli arg16 c2_i32
  let c1_i32_1432 : BitVec 32 := 1#32
  let v1901 : BitVec 32 := Scalar.addi v1281 c1_i32_1432
  let c1_i32_1433 : BitVec 32 := 1#32
  let v1902 : BitVec 32 := Scalar.addi v1901 c1_i32_1433
  let c512_i32_1783 : BitVec 32 := 512#32
  let v2366 : BitVec 32 := Scalar.muli v1902 c512_i32_1783
  v2366
def k0_mult24 (k0_t1 : Fin k0_t1_loop.trips) : BitVec 32 :=
  let c0_i32_148 : BitVec 32 := 0#32
  let c1_i32 : BitVec 32 := 1#32
  let arg16 : BitVec 32 := Scf.iv c0_i32_148 c1_i32 k0_t1
  let c2_i32 : BitVec 32 := 2#32
  let v1281 : BitVec 32 := Scalar.muli arg16 c2_i32
  let c1_i32_1432 : BitVec 32 := 1#32
  let v1901 : BitVec 32 := Scalar.addi v1281 c1_i32_1432
  let c1_i32_1433 : BitVec 32 := 1#32
  let v1902 : BitVec 32 := Scalar.addi v1901 c1_i32_1433
  let c512_i32_1841 : BitVec 32 := 512#32
  let v2443 : BitVec 32 := Scalar.muli v1902 c512_i32_1841
  v2443
def k0_mult25 : BitVec 32 :=
  let c7680_i32 : BitVec 32 := 7680#32
  c7680_i32
def k0_mult26 : BitVec 32 :=
  let c7680_i32_207 : BitVec 32 := 7680#32
  c7680_i32_207
def k0_mult27 : BitVec 32 :=
  let c7680_i32_266 : BitVec 32 := 7680#32
  c7680_i32_266
def k0_mult28 : BitVec 32 :=
  let c7680_i32_325 : BitVec 32 := 7680#32
  c7680_i32_325
def k0_mult29 : BitVec 32 :=
  let c7680_i32_384 : BitVec 32 := 7680#32
  c7680_i32_384
def k0_mult30 : BitVec 32 :=
  let c7680_i32_443 : BitVec 32 := 7680#32
  c7680_i32_443
def k0_mult31 : BitVec 32 :=
  let c7680_i32_502 : BitVec 32 := 7680#32
  c7680_i32_502
def k0_mult32 : BitVec 32 :=
  let c7680_i32_561 : BitVec 32 := 7680#32
  c7680_i32_561
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x10240 : Shape := ⟨2, ![16384, 10240]⟩
abbrev S1x64 : Shape := ⟨2, ![1, 64]⟩
abbrev S1x128 : Shape := ⟨2, ![1, 128]⟩
abbrev S16384x1024 : Shape := ⟨2, ![16384, 1024]⟩
abbrev S64 : Shape := ⟨1, ![64]⟩
abbrev S_ : Shape := ⟨0, ![]⟩
abbrev S2x8192x16x64 : Shape := ⟨4, ![2, 8192, 16, 64]⟩
abbrev S2x16x8192x64 : Shape := ⟨4, ![2, 16, 8192, 64]⟩
abbrev S2x8192x8x128 : Shape := ⟨4, ![2, 8192, 8, 128]⟩
abbrev S2x8x8192x128 : Shape := ⟨4, ![2, 8, 8192, 128]⟩
abbrev S2x16x8192x8192 : Shape := ⟨4, ![2, 16, 8192, 8192]⟩
abbrev S2x16x8192 : Shape := ⟨3, ![2, 16, 8192]⟩
abbrev S2x16x8192x1 : Shape := ⟨4, ![2, 16, 8192, 1]⟩
abbrev S2x8x2x8192x8192 : Shape := ⟨5, ![2, 8, 2, 8192, 8192]⟩
abbrev S2x8x1x8192x8192 : Shape := ⟨5, ![2, 8, 1, 8192, 8192]⟩
abbrev S2x8x8192x8192 : Shape := ⟨4, ![2, 8, 8192, 8192]⟩
abbrev S2x8192x8 : Shape := ⟨3, ![2, 8192, 8]⟩
abbrev S2x8192x8x1 : Shape := ⟨4, ![2, 8192, 8, 1]⟩
abbrev S128 : Shape := ⟨1, ![128]⟩
abbrev S1x1x1x128 : Shape := ⟨4, ![1, 1, 1, 128]⟩

abbrev nBuf : Space → Nat
  | .hbm => 82
  | .vmem => 0
  | .smem => 0
  | _ => 0

abbrev bufTy : (tb : Table) → Fin (tcTables nBuf tb) → BufTy
  | .hbm, ⟨0, _⟩ => ⟨S16384x10240, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S16384x10240, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x8192x16x64, .f32⟩
  | .hbm, ⟨26, _⟩ => ⟨S2x16x8192x64, .f32⟩
  | .hbm, ⟨27, _⟩ => ⟨S2x8192x16x64, .f32⟩
  | .hbm, ⟨28, _⟩ => ⟨S2x16x8192x64, .f32⟩
  | .hbm, ⟨29, _⟩ => ⟨S2x8192x8x128, .f32⟩
  | .hbm, ⟨30, _⟩ => ⟨S2x8x8192x128, .f32⟩
  | .hbm, ⟨31, _⟩ => ⟨S2x16x8192x8192, .f32⟩
  | .hbm, ⟨32, _⟩ => ⟨S_, .f32⟩
  | .hbm, ⟨33, _⟩ => ⟨S_, .f32⟩
  | .hbm, ⟨34, _⟩ => ⟨S2x16x8192x8192, .f32⟩
  | .hbm, ⟨35, _⟩ => ⟨S2x16x8192x8192, .f32⟩
  | .hbm, ⟨36, _⟩ => ⟨S_, .f32⟩
  | .hbm, ⟨37, _⟩ => ⟨S2x16x8192, .f32⟩
  | .hbm, ⟨38, _⟩ => ⟨S_, .f32⟩
  | .hbm, ⟨39, _⟩ => ⟨S2x16x8192, .f32⟩
  | .hbm, ⟨40, _⟩ => ⟨S2x16x8192, .f32⟩
  | .hbm, ⟨41, _⟩ => ⟨S2x16x8192x1, .f32⟩
  | .hbm, ⟨42, _⟩ => ⟨S2x16x8192x8192, .f32⟩
  | .hbm, ⟨43, _⟩ => ⟨S2x16x8192x8192, .f32⟩
  | .hbm, ⟨44, _⟩ => ⟨S2x16x8192x8192, .f32⟩
  | .hbm, ⟨45, _⟩ => ⟨S_, .f32⟩
  | .hbm, ⟨46, _⟩ => ⟨S2x16x8192, .f32⟩
  | .hbm, ⟨47, _⟩ => ⟨S2x16x8192x1, .f32⟩
  | .hbm, ⟨48, _⟩ => ⟨S2x16x8192x8192, .f32⟩
  | .hbm, ⟨49, _⟩ => ⟨S2x16x8192x8192, .f32⟩
  | .hbm, ⟨50, _⟩ => ⟨S2x8x2x8192x8192, .f32⟩
  | .hbm, ⟨51, _⟩ => ⟨S2x8x1x8192x8192, .f32⟩
  | .hbm, ⟨52, _⟩ => ⟨S2x8x8192x8192, .f32⟩
  | .hbm, ⟨53, _⟩ => ⟨S2x8x1x8192x8192, .f32⟩
  | .hbm, ⟨54, _⟩ => ⟨S2x8x8192x8192, .f32⟩
  | .hbm, ⟨55, _⟩ => ⟨S2x8x8192x8192, .f32⟩
  | .hbm, ⟨56, _⟩ => ⟨S2x8x8192x8192, .f32⟩
  | .hbm, ⟨57, _⟩ => ⟨S2x8x8192x8192, .f32⟩
  | .hbm, ⟨58, _⟩ => ⟨S2x8x8192x128, .f32⟩
  | .hbm, ⟨59, _⟩ => ⟨S2x8192x8x128, .f32⟩
  | .hbm, ⟨60, _⟩ => ⟨S2x8192x8x128, .f32⟩
  | .hbm, ⟨61, _⟩ => ⟨S_, .f32⟩
  | .hbm, ⟨62, _⟩ => ⟨S2x8192x8, .f32⟩
  | .hbm, ⟨63, _⟩ => ⟨S2x8192x8x1, .f32⟩
  | .hbm, ⟨64, _⟩ => ⟨S_, .f32⟩
  | .hbm, ⟨65, _⟩ => ⟨S2x8192x8x1, .f32⟩
  | .hbm, ⟨66, _⟩ => ⟨S2x8192x8x1, .f32⟩
  | .hbm, ⟨67, _⟩ => ⟨S_, .f32⟩
  | .hbm, ⟨68, _⟩ => ⟨S2x8192x8x1, .f32⟩
  | .hbm, ⟨69, _⟩ => ⟨S2x8192x8x1, .f32⟩
  | .hbm, ⟨70, _⟩ => ⟨S2x8192x8x1, .f32⟩
  | .hbm, ⟨71, _⟩ => ⟨S2x8192x8x128, .f32⟩
  | .hbm, ⟨72, _⟩ => ⟨S2x8192x8x128, .f32⟩
  | .hbm, ⟨73, _⟩ => ⟨S128, .f32⟩
  | .hbm, ⟨74, _⟩ => ⟨S1x1x1x128, .f32⟩
  | .hbm, ⟨75, _⟩ => ⟨S2x8192x8x128, .f32⟩
  | .hbm, ⟨76, _⟩ => ⟨S2x8192x8x128, .f32⟩
  | .hbm, ⟨77, _⟩ => ⟨S_, .f32⟩
  | .hbm, ⟨78, _⟩ => ⟨S2x8192x8x128, .f32⟩
  | .hbm, ⟨79, _⟩ => ⟨S2x8192x8x128, .f32⟩
  | .hbm, ⟨80, _⟩ => ⟨S16384x1024, .f32⟩
  | .hbm, ⟨81, _⟩ => ⟨S16384x1024, .bf16⟩
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Ffn.lean ====
abbrev S16384x2048 : Shape := ⟨2, ![16384, 2048]⟩
abbrev S2x6x2048 : Shape := ⟨3, ![2, 6, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S512x2048 : Shape := ⟨2, ![512, 2048]⟩
abbrev S1x6x2048 : Shape := ⟨3, ![1, 6, 2048]⟩
abbrev S2048x512 : Shape := ⟨2, ![2048, 512]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S2048x256 : Shape := ⟨2, ![2048, 256]⟩
abbrev S256x256 : Shape := ⟨2, ![256, 256]⟩
abbrev S512x256 : Shape := ⟨2, ![512, 256]⟩

abbrev nBuf : Space → Nat
  | .hbm => 15
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S2x6x2048, .f32⟩
  | .hbm, ⟨2, _⟩ => ⟨S1x2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S2048, .f32⟩
  | .hbm, ⟨7, _⟩ => ⟨S2048x5632, .f32⟩
  | .hbm, ⟨8, _⟩ => ⟨S2048x5632, .bf16⟩
  | .hbm, ⟨9, _⟩ => ⟨S2048x5632, .f32⟩
  | .hbm, ⟨10, _⟩ => ⟨S2048x5632, .bf16⟩
  | .hbm, ⟨11, _⟩ => ⟨S5632x2048, .f32⟩
  | .hbm, ⟨12, _⟩ => ⟨S5632x2048, .bf16⟩
  | .hbm, ⟨13, _⟩ => ⟨S1x2048, .f32⟩
  | .hbm, ⟨14, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 11], ![false, false]⟩

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x2048 : Shape := ⟨2, ![16384, 2048]⟩
abbrev S2x6x2048 : Shape := ⟨3, ![2, 6, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2x8192x2048 : Shape := ⟨3, ![2, 8192, 2048]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S2048 : Shape := ⟨1, ![2048]⟩
abbrev S1x1x2048 : Shape := ⟨3, ![1, 1, 2048]⟩
abbrev S2048x5632 : Shape := ⟨2, ![2048, 5632]⟩
abbrev S2x8192x5632 : Shape := ⟨3, ![2, 8192, 5632]⟩
abbrev S5632x2048 : Shape := ⟨2, ![5632, 2048]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x6x2048, .f32⟩
  | .hbm, ⟨2, _⟩ => ⟨S1x2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S2x8192x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x8192x2048, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x2048, .f32⟩
  | .hbm, ⟨22, _⟩ => ⟨S2x8192x2048, .f32⟩
  | .hbm, ⟨23, _⟩ => ⟨S2048, .f32⟩
  | .hbm, ⟨24, _⟩ => ⟨S1x1x2048, .f32⟩
  | .hbm, ⟨25, _⟩ => ⟨S2x8192x2048, .f32⟩
  | .hbm, ⟨26, _⟩ => ⟨S2x8192x2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x8192x2048, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S2048x5632, .f32⟩
  | .hbm, ⟨35, _⟩ => ⟨S2x8192x5632, .f32⟩
  | .hbm, ⟨36, _⟩ => ⟨S2x8192x5632, .f32⟩
  | .hbm, ⟨37, _⟩ => ⟨S2x8192x5632, .f32⟩
  | .hbm, ⟨38, _⟩ => ⟨S_, .f32⟩
  | .hbm, ⟨39, _⟩ => ⟨S2x8192x5632, .f32⟩
  | .hbm, ⟨40, _⟩ => ⟨S2x8192x5632, .f32⟩
  | .hbm, ⟨41, _⟩ => ⟨S_, .f32⟩
  | .hbm, ⟨42, _⟩ => ⟨S2x8192x5632, .f32⟩
  | .hbm, ⟨43, _⟩ => ⟨S2x8192x5632, .f32⟩
  | .hbm, ⟨44, _⟩ => ⟨S2x8192x5632, .f32⟩
  | .hbm, ⟨45, _⟩ => ⟨S2048x5632, .f32⟩
  | .hbm, ⟨46, _⟩ => ⟨S2x8192x5632, .f32⟩
  | .hbm, ⟨47, _⟩ => ⟨S2x8192x5632, .f32⟩
  | .hbm, ⟨48, _⟩ => ⟨S5632x2048, .f32⟩
  | .hbm, ⟨49, _⟩ => ⟨S2x8192x2048, .f32⟩
  | .hbm, ⟨50, _⟩ => ⟨S2x8192x2048, .f32⟩
  | .hbm, ⟨51, _⟩ => ⟨S2x8192x2048, .f32⟩
  | .hbm, ⟨52, _⟩ => ⟨S2x8192x2048, .f32⟩
  | .hbm, ⟨53, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== Merge.lean ====
abbrev S16384x1024 : Shape := ⟨2, ![16384, 1024]⟩
abbrev S16384x10240 : Shape := ⟨2, ![16384, 10240]⟩
abbrev S1x1024x2048 : Shape := ⟨3, ![1, 1024, 2048]⟩
abbrev S1x2048x2048 : Shape := ⟨3, ![1, 2048, 2048]⟩
abbrev S16384x2048 : Shape := ⟨2, ![16384, 2048]⟩
abbrev S2x6x2048 : Shape := ⟨3, ![2, 6, 2048]⟩
abbrev S1024x2048 : Shape := ⟨2, ![1024, 2048]⟩
abbrev S2048x2048 : Shape := ⟨2, ![2048, 2048]⟩
abbrev S512x1024 : Shape := ⟨2, ![512, 1024]⟩
abbrev S512x2048 : Shape := ⟨2, ![512, 2048]⟩
abbrev S1x6x2048 : Shape := ⟨3, ![1, 6, 2048]⟩
abbrev S1x1x2048 : Shape := ⟨3, ![1, 1, 2048]⟩
abbrev S1x2048 : Shape := ⟨2, ![1, 2048]⟩

abbrev nBuf : Space → Nat
  | .hbm => 15
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x10240, .bf16⟩
  | .hbm, ⟨3, _⟩ => ⟨S1x1024x2048, .f32⟩
  | .hbm, ⟨4, _⟩ => ⟨S1x1024x2048, .f32⟩
  | .hbm, ⟨5, _⟩ => ⟨S1x2048x2048, .f32⟩
  | .hbm, ⟨6, _⟩ => ⟨S16384x2048, .f32⟩
  | .hbm, ⟨7, _⟩ => ⟨S2x6x2048, .f32⟩
  | .hbm, ⟨8, _⟩ => ⟨S1024x2048, .f32⟩
  | .hbm, ⟨9, _⟩ => ⟨S1024x2048, .bf16⟩
  | .hbm, ⟨10, _⟩ => ⟨S1024x2048, .f32⟩
  | .hbm, ⟨11, _⟩ => ⟨S1024x2048, .bf16⟩
  | .hbm, ⟨12, _⟩ => ⟨S2048x2048, .f32⟩
  | .hbm, ⟨13, _⟩ => ⟨S2048x2048, .bf16⟩
  | .hbm, ⟨14, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S512x2048, .f32⟩
  | .local _ .vmem, ⟨12, _⟩ => ⟨S512x2048, .f32⟩
  | .local _ .vmem, ⟨13, _⟩ => ⟨S1x6x2048, .f32⟩
  | .local _ .vmem, ⟨14, _⟩ => ⟨S1x6x2048, .f32⟩
  | .local _ .vmem, ⟨15, _⟩ => ⟨S512x2048, .f32⟩
  | .local _ .vmem, ⟨16, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x6x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S16384x1024 : Shape := ⟨2, ![16384, 1024]⟩
abbrev S16384x10240 : Shape := ⟨2, ![16384, 10240]⟩
abbrev S1x1024x2048 : Shape := ⟨3, ![1, 1024, 2048]⟩
abbrev S1x2048x2048 : Shape := ⟨3, ![1, 2048, 2048]⟩
abbrev S16384x2048 : Shape := ⟨2, ![16384, 2048]⟩
abbrev S2x6x2048 : Shape := ⟨3, ![2, 6, 2048]⟩
abbrev S16384x4096 : Shape := ⟨2, ![16384, 4096]⟩
abbrev S1024x2048 : Shape := ⟨2, ![1024, 2048]⟩
abbrev S2x8192x2048 : Shape := ⟨3, ![2, 8192, 2048]⟩
abbrev S2x1x2048 : Shape := ⟨3, ![2, 1, 2048]⟩
abbrev S2048x2048 : Shape := ⟨2, ![2048, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x10240, .bf16⟩
  | .hbm, ⟨3, _⟩ => ⟨S1x1024x2048, .f32⟩
  | .hbm, ⟨4, _⟩ => ⟨S1x1024x2048, .f32⟩
  | .hbm, ⟨5, _⟩ => ⟨S1x2048x2048, .f32⟩
  | .hbm, ⟨6, _⟩ => ⟨S16384x2048, .f32⟩
  | .hbm, ⟨7, _⟩ => ⟨S2x6x2048, .f32⟩
  | .hbm, ⟨8, _⟩ => ⟨S16384x4096, .bf16⟩
  | .hbm, ⟨9, _⟩ => ⟨S16384x4096, .f32⟩
  | .hbm, ⟨10, _⟩ => ⟨S16384x2048, .f32⟩
  | .hbm, ⟨11, _⟩ => ⟨S16384x2048, .f32⟩
  | .hbm, ⟨12, _⟩ => ⟨S16384x1024, .f32⟩
  | .hbm, ⟨13, _⟩ => ⟨S16384x1024, .f32⟩
  | .hbm, ⟨14, _⟩ => ⟨S1024x2048, .f32⟩
  | .hbm, ⟨15, _⟩ => ⟨S16384x2048, .f32⟩
  | .hbm, ⟨16, _⟩ => ⟨S16384x2048, .f32⟩
  | .hbm, ⟨17, _⟩ => ⟨S1024x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S2x8192x2048, .f32⟩
  | .hbm, ⟨22, _⟩ => ⟨S2x1x2048, .f32⟩
  | .hbm, ⟨23, _⟩ => ⟨S2048x2048, .f32⟩
  | .hbm, ⟨24, _⟩ => ⟨S16384x2048, .f32⟩
  | .hbm, ⟨25, _⟩ => ⟨S2x8192x2048, .f32⟩
  | .hbm, ⟨26, _⟩ => ⟨S2x8192x2048, .f32⟩
  | .hbm, ⟨27, _⟩ => ⟨S2x8192x2048, .f32⟩
  | .hbm, ⟨28, _⟩ => ⟨S2x8192x2048, .f32⟩
  | .hbm, ⟨29, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Ada.lean ====
abbrev S2x2048 : Shape := ⟨2, ![2, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S2x2048x1 : Shape := ⟨3, ![2, 2048, 1]⟩
abbrev S2x1x12288 : Shape := ⟨3, ![2, 1, 12288]⟩
abbrev S2048x512 : Shape := ⟨2, ![2048, 512]⟩
abbrev S1x512 : Shape := ⟨2, ![1, 512]⟩
abbrev S2x1x512 : Shape := ⟨3, ![2, 1, 512]⟩
abbrev S1x2048x1 : Shape := ⟨3, ![1, 2048, 1]⟩
abbrev S2048x1 : Shape := ⟨2, ![2048, 1]⟩
abbrev S512 : Shape := ⟨1, ![512]⟩
abbrev S1x1x512 : Shape := ⟨3, ![1, 1, 512]⟩

abbrev nBuf : Space → Nat
  | .hbm => 8
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S2x2048x1, .f32⟩
  | .hbm, ⟨6, _⟩ => ⟨S1x12288, .f32⟩
  | .hbm, ⟨7, _⟩ => ⟨S2x1x12288, .f32⟩
  | .local _ .vmem, ⟨0, _⟩ => ⟨S2x2048x1, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S2x1x512, .f32⟩
  | .local _ .vmem, ⟨6, _⟩ => ⟨S2x1x512, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S2x2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S2x2048 : Shape := ⟨2, ![2, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S2x12288 : Shape := ⟨2, ![2, 12288]⟩
abbrev S12288 : Shape := ⟨1, ![12288]⟩
abbrev S2x1x12288 : Shape := ⟨3, ![2, 1, 12288]⟩

abbrev nBuf : Space → Nat
  | .hbm => 19
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S1x2048x12288, .f32⟩
  | .hbm, ⟨2, _⟩ => ⟨S1x12288, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2048x12288, .f32⟩
  | .hbm, ⟨13, _⟩ => ⟨S2x12288, .f32⟩
  | .hbm, ⟨14, _⟩ => ⟨S12288, .f32⟩
  | .hbm, ⟨15, _⟩ => ⟨S1x12288, .f32⟩
  | .hbm, ⟨16, _⟩ => ⟨S2x12288, .f32⟩
  | .hbm, ⟨17, _⟩ => ⟨S2x12288, .f32⟩
  | .hbm, ⟨18, _⟩ => ⟨S2x1x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Proof.Jobs.lean ====
/- The attention kernel's body as a sequence of jobs. A score job writes one block of keys' scores against one tile of
   queries, with their maximum over the block; an accumulate job takes one such block of scores into the running maximum
   and the running sums. The printed body is those jobs, tile after tile and block after block. -/
module

public import proofs.«01_k».proof.Proof.Gen.KernelIdeal.Loops

@[expose] public section

noncomputable section

namespace Cert.KernelIdeal.Attn

open Idealize.ShloMosaic Idealize.ShloMosaic.TcCoe Idealize.SL.Sem
open Cert.KernelIdeal Cert.KernelIdeal.Gen

variable {F : FTy → Type} [FloatOps F]

/-! ## The rectangles -/

theorem inbS : ∀ (c : Fin 2) (t : Fin 8) (a : Fin 3), (![c.val, 0, 256 * t.val] : Fin 3 → Nat) a + S1x512x256.size a ≤ S2x512x2048.size a := by decide
theorem inbC : ∀ (c : Fin 2) (t : Fin 8) (a : Fin 3), (![c.val, 0, 256 * t.val] : Fin 3 → Nat) a + S1x1x256.size a ≤ S2x1x2048.size a := by decide
theorem inbA : ∀ (c : Fin 2) (t : Fin 8) (a : Fin 3), (![c.val, 0, 256 * t.val] : Fin 3 → Nat) a + S1x144x256.size a ≤ S2x144x2048.size a := by decide
theorem inbV : ∀ (j : Fin 16) (a : Fin 3), (![j.val, 0, 0] : Fin 3 → Nat) a + S1x144x512.size a ≤ S16x144x512.size a := by decide
theorem inbV0 : ∀ (j : Fin 16) (a : Fin 3), (![j.val, 0, 0] : Fin 3 → Nat) a + S1x128x512.size a ≤ S16x144x512.size a := by decide
theorem inbV1 : ∀ (j : Fin 16) (a : Fin 3), (![j.val, 128, 0] : Fin 3 → Nat) a + S1x16x512.size a ≤ S16x144x512.size a := by decide
theorem inbK : ∀ (j : Fin 16) (a : Fin 2), (![512 * j.val, 0] : Fin 2 → Nat) a + S512x128.size a ≤ S8192x128.size a := by decide
theorem slQ : ∀ t : Fin 8, S128x2048.Slices ![0, 256 * t.val] S128x256 := by decide

/-- Component `c`, query tile `t` of a score buffer. -/
abbrev rS (c : Fin 2) (t : Fin 8) : Rect S2x512x2048 := Rect.unit (s := S2x512x2048) ![c.val, 0, 256 * t.val] S1x512x256.size (inbS c t)
/-- Component `c`, query tile `t` of a row of maxima. -/
abbrev rC (c : Fin 2) (t : Fin 8) : Rect S2x1x2048 := Rect.unit (s := S2x1x2048) ![c.val, 0, 256 * t.val] S1x1x256.size (inbC c t)
/-- Component `c`, query tile `t` of the running sums. -/
abbrev rA (c : Fin 2) (t : Fin 8) : Rect S2x144x2048 := Rect.unit (s := S2x144x2048) ![c.val, 0, 256 * t.val] S1x144x256.size (inbA c t)
/-- Block `j` of the transposed values. -/
abbrev rV (j : Fin 16) : Rect S16x144x512 := Rect.unit (s := S16x144x512) ![j.val, 0, 0] S1x144x512.size (inbV j)
abbrev rV0 (j : Fin 16) : Rect S16x144x512 := Rect.unit (s := S16x144x512) ![j.val, 0, 0] S1x128x512.size (inbV0 j)
abbrev rV1 (j : Fin 16) : Rect S16x144x512 := Rect.unit (s := S16x144x512) ![j.val, 128, 0] S1x16x512.size (inbV1 j)
/-- Block `j` of the keys (or values). -/
abbrev rK (j : Fin 16) : Rect S8192x128 := Rect.unit (s := S8192x128) ![512 * j.val, 0] S512x128.size (inbK j)

/-! ## The values -/

/-- One block of keys against one tile of (masked) queries. -/
def sc (kc : Vec F S512x128 .bf16) (q : FVec F S128x2048 .bf16) (t : Fin 8) : FVec F S512x256 .f32 :=
  matmul dot_S512x128_S128x256_S512x256_1_0_0_1_n_n none kc (extractStridedSlice S128x256 ![0, 256 * t.val] q (slQ t)) (constant S512x256 .f32 0x00000000#32)

def scPay (kc : Vec F S512x128 .bf16) (q : FVec F S128x2048 .bf16) (t : Fin 8) : FVec F S1x512x256 .f32 :=
  shapeCast S1x512x256 (sc kc q t) shapeCasts_S512x256_S1x512x256

def cmPay (kc : Vec F S512x128 .bf16) (q : FVec F S128x2048 .bf16) (t : Fin 8) : FVec F S1x1x256 .f32 :=
  shapeCast S1x1x256 (shapeCast S1x256 (multiReduction .maximumf [0] S256 (sc kc q t) 0xFF800000#32 reduces_S512x256_S256 (.inl rfl) rfl) shapeCasts_S256_S1x256) shapeCasts_S1x256_S1x1x256

def mNew (m cm : Vec F S1x1x256 .f32) : FVec F S1x256 .f32 :=
  maximumf (shapeCast S1x256 m shapeCasts_S1x1x256_S1x256) (shapeCast S1x256 cm shapeCasts_S1x1x256_S1x256)

def mPay (m cm : Vec F S1x1x256 .f32) : FVec F S1x1x256 .f32 := shapeCast S1x1x256 (mNew m cm) shapeCasts_S1x256_S1x1x256

def pW (m cm : Vec F S1x1x256 .f32) (s : Vec F S1x512x256 .f32) : FVec F S512x256 .bf16 :=
  truncf .bf16 (exp2 (subf (shapeCast S512x256 s shapeCasts_S1x512x256_S512x256) (broadcastTo S512x256 (mNew m cm) broadcasts_S1x256_S512x256))) bitsLt_bf16_f32

def accPay (vt : Vec F S1x144x512 .bf16) (m cm : Vec F S1x1x256 .f32) (s : Vec F S1x512x256 .f32) (a : Vec F S1x144x256 .f32) : FVec F S1x144x256 .f32 :=
  shapeCast S1x144x256
    (addf (mulf (broadcastTo S144x256 (exp2 (subf (shapeCast S1x256 m shapeCasts_S1x1x256_S1x256) (mNew m cm))) broadcasts_S1x256_S144x256)
        (shapeCast S144x256 a shapeCasts_S1x144x256_S144x256))
      (matmul dot_S144x512_S512x256_S144x256_1_0_0_1_n_n none (shapeCast S144x512 vt shapeCasts_S1x144x512_S144x512) (pW m cm s) (constant S144x256 .f32 0x00000000#32)))
    shapeCasts_S144x256_S1x144x256

/-! ## The jobs -/

/-- Component `c` of a score job. -/
def scoreComp (sb : Memref sig .tc .vmem S2x512x2048 .f32) (cb : Memref sig .tc .vmem S2x1x2048 .f32) (c : Fin 2) (t : Fin 8)
    (kc : Vec F S512x128 .bf16) (q : FVec F S128x2048 .bf16) : Prog (TpuEff nD τ sig (Elt F) Λ₀ .tc) PUnit := do
  let _d : Vec F S1x512x256 .f32 ← Prog.lift (.load sb (rS c t).toLoadRect (View.loadsAt_vmem h_S1x512x256))
  Prog.lift (.store sb (rS c t) (scPay kc q t) Finset.univ (View.stores_vmem_bits_univ h_S1x512x256 rfl) (.inl rfl))
  let _e : Vec F S1x1x256 .f32 ← Prog.lift (.load cb (rC c t).toLoadRect (View.loadsAt_vmem h_S1x1x256))
  Prog.lift (.store cb (rC c t) (cmPay kc q t) Finset.univ (View.stores_vmem_bits_univ h_S1x1x256 rfl) (.inl rfl))

/-- A score job: the keys from row `off 0` on, tile `t`. -/
def score (kb : Memref sig .tc .vmem S8192x128 .bf16) (sb : Memref sig .tc .vmem S2x512x2048 .f32) (cb : Memref sig .tc .vmem S2x1x2048 .f32)
    (q0 q1 : FVec F S128x2048 .bf16) (off : Fin 2 → ℕ) (ho : ∀ a, off a + S512x128.size a ≤ S8192x128.size a) (t : Fin 8) :
    Prog (TpuEff nD τ sig (Elt F) Λ₀ .tc) PUnit := do
  let kc : Vec F S512x128 .bf16 ← Prog.lift (.load kb (Rect.unit (s := S8192x128) off S512x128.size ho).toLoadRect (View.loadsAt_vmem h_S512x128))
  scoreComp sb cb 0 t kc q0
  scoreComp sb cb 1 t kc q1

/-- Component `c` of an accumulate job. -/
def accComp (mb : Memref sig .tc .vmem S2x1x2048 .f32) (ab : Memref sig .tc .vmem S2x144x2048 .f32) (sb : Memref sig .tc .vmem S2x512x2048 .f32)
    (cb : Memref sig .tc .vmem S2x1x2048 .f32) (c : Fin 2) (t : Fin 8) (vt : Vec F S1x144x512 .bf16) : Prog (TpuEff nD τ sig (Elt F) Λ₀ .tc) PUnit := do
  let m : Vec F S1x1x256 .f32 ← Prog.lift (.load mb (rC c t).toLoadRect (View.loadsAt_vmem h_S1x1x256))
  let cm : Vec F S1x1x256 .f32 ← Prog.lift (.load cb (rC c t).toLoadRect (View.loadsAt_vmem h_S1x1x256))
  let s : Vec F S1x512x256 .f32 ← Prog.lift (.load sb (rS c t).toLoadRect (View.loadsAt_vmem h_S1x512x256))
  let a : Vec F S1x144x256 .f32 ← Prog.lift (.load ab (rA c t).toLoadRect (View.loadsAt_vmem h_S1x144x256))
  let _d : Vec F S1x144x256 .f32 ← Prog.lift (.load ab (rA c t).toLoadRect (View.loadsAt_vmem h_S1x144x256))
  Prog.lift (.store ab (rA c t) (accPay vt m cm s a) Finset.univ (View.stores_vmem_bits_univ h_S1x144x256 rfl) (.inl rfl))
  let _e : Vec F S1x1x256 .f32 ← Prog.lift (.load mb (rC c t).toLoadRect (View.loadsAt_vmem h_S1x1x256))
  Prog.lift (.store mb (rC c t) (mPay m cm) Finset.univ (View.stores_vmem_bits_univ h_S1x1x256 rfl) (.inl rfl))

/-- An accumulate job. -/
def accum (vb : Memref sig .tc .vmem S16x144x512 .bf16) (mb : Memref sig .tc .vmem S2x1x2048 .f32) (ab : Memref sig .tc .vmem S2x144x2048 .f32)
    (sb : Memref sig .tc .vmem S2x512x2048 .f32) (cb : Memref sig .tc .vmem S2x1x2048 .f32)
    (off : Fin 3 → ℕ) (ho : ∀ a, off a + S1x144x512.size a ≤ S16x144x512.size a) (t : Fin 8) :
    Prog (TpuEff nD τ sig (Elt F) Λ₀ .tc) PUnit := do
  let vt : Vec F S1x144x512 .bf16 ← Prog.lift (.load vb (Rect.unit (s := S16x144x512) off S1x144x512.size ho).toLoadRect (View.loadsAt_vmem h_S1x144x512))
  accComp mb ab sb cb 0 t vt
  accComp mb ab sb cb 1 t vt

/-- A job of every query tile in turn. -/
def tiles (f : Fin 8 → Prog (TpuEff nD τ sig (Elt F) Λ₀ .tc) PUnit) : Prog (TpuEff nD τ sig (Elt F) Λ₀ .tc) PUnit := do
  f 0; f 1; f 2; f 3; f 4; f 5; f 6; f 7

/-- One trip of the loop: two blocks scored, two accumulated. -/
def trip (kb : Memref sig .tc .vmem S8192x128 .bf16) (vb : Memref sig .tc .vmem S16x144x512 .bf16) (mb : Memref sig .tc .vmem S2x1x2048 .f32)
    (ab : Memref sig .tc .vmem S2x144x2048 .f32) (s0 s1 : Memref sig .tc .vmem S2x512x2048 .f32) (c0 c1 : Memref sig .tc .vmem S2x1x2048 .f32)
    (q0 q1 : FVec F S128x2048 .bf16) (k : Fin k0_t1_loop.trips) : Prog (TpuEff nD τ sig (Elt F) Λ₀ .tc) PUnit := do
  tiles fun t => do
    score kb s1 c1 q0 q1 (k0_off1 k 0#32) (k0_off1_inb k 0) t
    accum vb mb ab s0 c0 (k0_off2 k 0#32) (k0_off2_inb k 0) t
  tiles fun t => do
    score kb s0 c0 q0 q1 (k0_off1 k 1#32) (k0_off1_inb k 1) t
    accum vb mb ab s1 c1 (k0_off2 k 1#32) (k0_off2_inb k 1) t

set_option maxRecDepth 65536 in
theorem body_eq_trip (i : grid0.Coords) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S2048x128 .bf16) (harg8 : arg8.IsWhole) (arg9 : Memref sig .tc .vmem S16x144x512 .bf16) (harg9 : arg9.IsWhole) (arg10 : Memref sig .tc .vmem S2x1x2048 .f32) (harg10 : arg10.IsWhole) (arg11 : Memref sig .tc .vmem S2x144x2048 .f32) (harg11 : arg11.IsWhole) (arg12 : Memref sig .tc .vmem S2x512x2048 .f32) (harg12 : arg12.IsWhole) (arg13 : Memref sig .tc .vmem S2x512x2048 .f32) (harg13 : arg13.IsWhole) (arg14 : Memref sig .tc .vmem S2x1x2048 .f32) (harg14 : arg14.IsWhole) (arg15 : Memref sig .tc .vmem S2x1x2048 .f32) (harg15 : arg15.IsWhole) (v13 v20 : FVec F S128x2048 .bf16) (k : Fin k0_t1_loop.trips) :
    (do let v2519 : FVec F S1x1x256 .f32 ← k0_part44 i arg3 harg3 arg4 harg4 arg5 harg5 arg6 harg6 arg7 harg7 arg8 harg8 arg9 harg9 arg10 harg10 arg11 harg11 arg12 harg12 arg13 harg13 arg14 harg14 arg15 harg15 v13 v20 0#32 1#32 k
        Prog.lift (.store arg10 (Rect.unit (s := S2x1x2048) ![1, 0, 1792] S1x1x256.size inb_S2x1x2048_S1x1x256_1_0_1792) v2519 Finset.univ (View.stores_vmem_bits_univ h_S1x1x256 rfl) (.inl rfl)) : Prog (TpuEff nD τ sig (Elt F) Λ₀ .tc) PUnit)
      = trip arg4 arg9 arg10 arg11 arg12 arg13 arg14 arg15 v13 v20 k := by
  sl_kernel_rfl

/-! ## The body -/

theorem pkV0 : ∀ j : Fin 16, (rV0 j).PackedRows (EltTy.packing .bf16) := by decide
theorem pkV1 : ∀ j : Fin 16, (rV1 j).PackedRows (EltTy.packing .bf16) := by decide

/-- One block of values, transposed. -/
def vtPay (v : Vec F S512x128 .bf16) : FVec F S1x128x512 .bf16 :=
  shapeCast S1x128x512 (truncf .bf16 (transpose S128x512 [1, 0] (extf .f32 v bitsLt_bf16_f32) transposes_S512x128_p1_0_S128x512) bitsLt_bf16_f32) shapeCasts_S128x512_S1x128x512

/-- The rows of ones under the transposed values. -/
def onesPay : FVec F S1x16x512 .bf16 := shapeCast S1x16x512 (broadcast S16x512 (Scalar.ofBits .bf16 0x3F80#16 : F .bf16)) shapeCasts_S16x512_S1x16x512

/-- Transpose block `j` of the values into the scratch, ones under it. -/
def fill (xb : Memref sig .tc .vmem S8192x128 .bf16) (vb : Memref sig .tc .vmem S16x144x512 .bf16) (hv : vb.IsWhole) (j : Fin 16) :
    Prog (TpuEff nD τ sig (Elt F) Λ₀ .tc) PUnit := do
  let v : Vec F S512x128 .bf16 ← Prog.lift (.load xb (rK j).toLoadRect (View.loadsAt_vmem h_S512x128))
  let _d : Vec F S1x128x512 .bf16 ← Prog.lift (.load vb (rV0 j).toLoadRect (View.loadsAt_vmem h_S1x128x512))
  Prog.lift (.store vb (rV0 j) (vtPay v) Finset.univ (View.stores_vmem h_S1x128x512 (hv.storeExact_slice rfl _ (pkV0 j)) (fun _ => rfl)) (.inl rfl))
  let _e : Vec F S1x16x512 .bf16 ← Prog.lift (.load vb (rV1 j).toLoadRect (View.loadsAt_vmem h_S1x16x512))
  Prog.lift (.store vb (rV1 j) onesPay Finset.univ (View.stores_vmem h_S1x16x512 (hv.storeExact_slice rfl _ (pkV1 j)) (fun _ => rfl)) (.inl rfl))

/-- Every block of the values. -/
def fills (f : Fin 16 → Prog (TpuEff nD τ sig (Elt F) Λ₀ .tc) PUnit) : Prog (TpuEff nD τ sig (Elt F) Λ₀ .tc) PUnit := do
  f 0; f 1; f 2; f 3; f 4; f 5; f 6; f 7; f 8; f 9; f 10; f 11; f 12; f 13; f 14; f 15

/-- The queries, transposed, the second component's rows zeroed. -/
def q0Pay (x : Vec F S2048x128 .bf16) : FVec F S128x2048 .bf16 :=
  truncf .bf16 (select (broadcastTo S128x2048 (shapeCast S128x1 (cmpi .slt (iota .tc S128x1 32 [0] iota_S128x1_d0_w32) (broadcast S128x1 64#32)) shapeCasts_S128x1_S128x1) broadcasts_S128x1_S128x2048)
    (transpose S128x2048 [1, 0] (extf .f32 x bitsLt_bf16_f32) transposes_S2048x128_p1_0_S128x2048) (broadcast S128x2048 (Scalar.ofBits .f32 0x00000000#32 : F .f32))) bitsLt_bf16_f32

/-- The queries, transposed, the first component's rows zeroed. -/
def q1Pay (x : Vec F S2048x128 .bf16) : FVec F S128x2048 .bf16 :=
  truncf .bf16 (select (broadcastTo S128x2048 (shapeCast S128x1 (cmpi .sge (iota .tc S128x1 32 [0] iota_S128x1_d0_w32) (broadcast S128x1 64#32)) shapeCasts_S128x1_S128x1) broadcasts_S128x1_S128x2048)
    (transpose S128x2048 [1, 0] (extf .f32 x bitsLt_bf16_f32) transposes_S2048x128_p1_0_S128x2048) (broadcast S128x2048 (Scalar.ofBits .f32 0x00000000#32 : F .f32))) bitsLt_bf16_f32

/-- The maxima before any block: minus infinity. -/
def m0Pay : FVec F S2x1x2048 .f32 := shapeCast S2x1x2048 (broadcast S2x1x2048 (Scalar.ofBits .f32 0xFF800000#32 : F .f32)) shapeCasts_S2x1x2048_S2x1x2048
/-- The sums before any block: zero. -/
def a0Pay : FVec F S2x144x2048 .f32 := shapeCast S2x144x2048 (broadcast S2x144x2048 (Scalar.ofBits .f32 0x00000000#32 : F .f32)) shapeCasts_S2x144x2048_S2x144x2048

/-- The weight of the second component. -/
def lamPay (l : Vec F S4x64 .f32) : FVec F S1x1 .f32 :=
  have v1231 : FVec F S4x64 .f32 := shapeCast S4x64 l shapeCasts_S4x64_S4x64
  addf (subf (exp (shapeCast S1x1 (multiReduction .add [1] S1 (mulf (extractStridedSlice S1x64 ![0, 0] v1231 slices_S4x64_o0_0_S1x64) (extractStridedSlice S1x64 ![1, 0] v1231 slices_S4x64_o1_0_S1x64)) 0x00000000#32 reduces_S1x64_S1 (.inl rfl) rfl) shapeCasts_S1_S1x1))
      (exp (shapeCast S1x1 (multiReduction .add [1] S1 (mulf (extractStridedSlice S1x64 ![2, 0] v1231 slices_S4x64_o2_0_S1x64) (extractStridedSlice S1x64 ![3, 0] v1231 slices_S4x64_o3_0_S1x64)) 0x00000000#32 reduces_S1x64_S1 (.inl rfl) rfl) shapeCasts_S1_S1x1)))
    (broadcast S1x1 (Scalar.ofBits .f32 0x3E4CCCCD#32 : F .f32))

/-- One component's sums over its weights' sum. -/
def ratio (a : Vec F S1x144x2048 .f32) : FVec F S128x2048 .f32 :=
  have v : FVec F S144x2048 .f32 := shapeCast S144x2048 a shapeCasts_S1x144x2048_S144x2048
  divf (extractStridedSlice S128x2048 ![0, 0] v slices_S144x2048_o0_0_S128x2048)
    (broadcastTo S128x2048 (extractStridedSlice S1x2048 ![128, 0] v slices_S144x2048_o128_0_S1x2048) broadcasts_S1x2048_S128x2048)

/-- The difference of the two components. -/
def diffPay (l : Vec F S4x64 .f32) (a0 a1 : Vec F S1x144x2048 .f32) : FVec F S128x2048 .f32 :=
  subf (ratio a0) (mulf (broadcastTo S128x2048 (lamPay l) broadcasts_S1x1_S128x2048) (ratio a1))

/-- The normalised difference, as it is stored. -/
def outPay (l : Vec F S4x64 .f32) (a0 a1 : Vec F S1x144x2048 .f32) (g : Vec F S128x1 .f32) : FVec F S2048x128 .bf16 :=
  have v1261 : FVec F S128x2048 .f32 := diffPay l a0 a1
  have v1269 : FVec F S1x2048 .f32 := rsqrt (addf (divf (shapeCast S1x2048 (multiReduction .add [0] S2048 (mulf v1261 v1261) 0x00000000#32 reduces_S128x2048_S2048 (.inl rfl) rfl) shapeCasts_S2048_S1x2048)
    (broadcast S1x2048 (Scalar.ofBits .f32 0x43000000#32 : F .f32))) (broadcast S1x2048 (Scalar.ofBits .f32 0x358637BD#32 : F .f32)))
  truncf .bf16 (transpose S2048x128 [1, 0] (mulf (mulf (mulf v1261 (broadcastTo S128x2048 v1269 broadcasts_S1x2048_S128x2048))
    (broadcastTo S128x2048 (shapeCast S128x1 g shapeCasts_S128x1_S128x1) broadcasts_S128x1_S128x2048)) (broadcast S128x2048 (Scalar.ofBits .f32 0x3F4CCCCD#32 : F .f32))) transposes_S128x2048_p1_0_S2048x128) bitsLt_bf16_f32

/-- The loop over pairs of blocks. -/
def loopP (kb : Memref sig .tc .vmem S8192x128 .bf16) (vb : Memref sig .tc .vmem S16x144x512 .bf16) (mb : Memref sig .tc .vmem S2x1x2048 .f32)
    (ab : Memref sig .tc .vmem S2x144x2048 .f32) (s0 s1 : Memref sig .tc .vmem S2x512x2048 .f32) (c0 c1 : Memref sig .tc .vmem S2x1x2048 .f32)
    (q0 q1 : FVec F S128x2048 .bf16) : Prog (TpuEff nD τ sig (Elt F) Λ₀ .tc) PUnit :=
  Scf.Loop.for k0_t1_loop k0_t1_ok ⟨⟩ fun k _ => trip kb vb mb ab s0 s1 c0 c1 q0 q1 k

/-- What follows the loop: the last block's scores, the last two blocks accumulated, the output. -/
def bodyTail (kb : Memref sig .tc .vmem S8192x128 .bf16) (lb : Memref sig .tc .vmem S4x64 .f32) (gb : Memref sig .tc .vmem S128x1 .f32)
    (ob : Memref sig .tc .vmem S2048x128 .bf16) (hob : ob.IsWhole) (vb : Memref sig .tc .vmem S16x144x512 .bf16) (mb : Memref sig .tc .vmem S2x1x2048 .f32)
    (ab : Memref sig .tc .vmem S2x144x2048 .f32) (s0 s1 : Memref sig .tc .vmem S2x512x2048 .f32) (c0 c1 : Memref sig .tc .vmem S2x1x2048 .f32)
    (q0 q1 : FVec F S128x2048 .bf16) : Prog (TpuEff nD τ sig (Elt F) Λ₀ .tc) PUnit := do
  tiles fun t => do
    score kb s1 c1 q0 q1 ![512 * (15 : Fin 16).val, 0] (inbK 15) t
    accum vb mb ab s0 c0 ![(14 : Fin 16).val, 0, 0] (inbV 14) t
  tiles fun t => accum vb mb ab s1 c1 ![(15 : Fin 16).val, 0, 0] (inbV 15) t
  let l : Vec F S4x64 .f32 ← Prog.lift (.load lb (Rect.unit (s := S4x64) ![0, 0] S4x64.size inb_S4x64_S4x64_0_0).toLoadRect (View.loadsAt_vmem h_S4x64))
  let a0 : Vec F S1x144x2048 .f32 ← Prog.lift (.load ab (Rect.unit (s := S2x144x2048) ![0, 0, 0] S1x144x2048.size inb_S2x144x2048_S1x144x2048_0_0_0).toLoadRect (View.loadsAt_vmem h_S1x144x2048))
  let a1 : Vec F S1x144x2048 .f32 ← Prog.lift (.load ab (Rect.unit (s := S2x144x2048) ![1, 0, 0] S1x144x2048.size inb_S2x144x2048_S1x144x2048_1_0_0).toLoadRect (View.loadsAt_vmem h_S1x144x2048))
  let g : Vec F S128x1 .f32 ← Prog.lift (.load gb (Rect.unit (s := S128x1) ![0, 0] S128x1.size inb_S128x1_S128x1_0_0).toLoadRect (View.loadsAt_vmem h_S128x1))
  let _d : Vec F S2048x128 .bf16 ← Prog.lift (.load ob (Rect.unit (s := S2048x128) ![0, 0] S2048x128.size inb_S2048x128_S2048x128_0_0).toLoadRect (View.loadsAt_vmem h_S2048x128))
  Prog.lift (.store ob (Rect.unit (s := S2048x128) ![0, 0] S2048x128.size inb_S2048x128_S2048x128_0_0) (outPay l a0 a1 g) Finset.univ (View.stores_vmem h_S2048x128 (hob.storeExact_slice rfl _ packedbf16_S2048x128_S2048x128_0_0) (fun _ => rfl)) (.inl rfl))

/-- What follows the values' transposing. -/
def bodyMain (qb : Memref sig .tc .vmem S2048x128 .bf16) (kb : Memref sig .tc .vmem S8192x128 .bf16) (lb : Memref sig .tc .vmem S4x64 .f32) (gb : Memref sig .tc .vmem S128x1 .f32)
    (ob : Memref sig .tc .vmem S2048x128 .bf16) (hob : ob.IsWhole) (vb : Memref sig .tc .vmem S16x144x512 .bf16) (mb : Memref sig .tc .vmem S2x1x2048 .f32)
    (ab : Memref sig .tc .vmem S2x144x2048 .f32) (s0 s1 : Memref sig .tc .vmem S2x512x2048 .f32) (c0 c1 : Memref sig .tc .vmem S2x1x2048 .f32) :
    Prog (TpuEff nD τ sig (Elt F) Λ₀ .tc) PUnit := do
  let x : Vec F S2048x128 .bf16 ← Prog.lift (.load qb (Rect.unit (s := S2048x128) ![0, 0] S2048x128.size inb_S2048x128_S2048x128_0_0).toLoadRect (View.loadsAt_vmem h_S2048x128))
  let _d : Vec F S2x1x2048 .f32 ← Prog.lift (.load mb (Rect.unit (s := S2x1x2048) ![0, 0, 0] S2x1x2048.size inb_S2x1x2048_S2x1x2048_0_0_0).toLoadRect (View.loadsAt_vmem h_S2x1x2048))
  Prog.lift (.store mb (Rect.unit (s := S2x1x2048) ![0, 0, 0] S2x1x2048.size inb_S2x1x2048_S2x1x2048_0_0_0) m0Pay Finset.univ (View.stores_vmem_bits_univ h_S2x1x2048 rfl) (.inl rfl))
  let _e : Vec F S2x144x2048 .f32 ← Prog.lift (.load ab (Rect.unit (s := S2x144x2048) ![0, 0, 0] S2x144x2048.size inb_S2x144x2048_S2x144x2048_0_0_0).toLoadRect (View.loadsAt_vmem h_S2x144x2048))
  Prog.lift (.store ab (Rect.unit (s := S2x144x2048) ![0, 0, 0] S2x144x2048.size inb_S2x144x2048_S2x144x2048_0_0_0) a0Pay Finset.univ (View.stores_vmem_bits_univ h_S2x144x2048 rfl) (.inl rfl))
  tiles fun t => score kb s0 c0 (q0Pay x) (q1Pay x) ![512 * (0 : Fin 16).val, 0] (inbK 0) t
  loopP kb vb mb ab s0 s1 c0 c1 (q0Pay x) (q1Pay x)
  bodyTail kb lb gb ob hob vb mb ab s0 s1 c0 c1 (q0Pay x) (q1Pay x)

/-- Whether a grid point is the first of its batch and head. -/
def firstPt (i : grid0.Coords) : BitVec 1 := Scalar.cmpi .ne (Scalar.extui (Scalar.cmpi .eq (BitVec.ofNat 32 (i 2).val) 0#32) : BitVec 32) 0#32

section
variable (i : grid0.Coords) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S2048x128 .bf16) (harg8 : arg8.IsWhole) (arg9 : Memref sig .tc .vmem S16x144x512 .bf16) (harg9 : arg9.IsWhole) (arg10 : Memref sig .tc .vmem S2x1x2048 .f32) (harg10 : arg10.IsWhole) (arg11 : Memref sig .tc .vmem S2x144x2048 .f32) (harg11 : arg11.IsWhole) (arg12 : Memref sig .tc .vmem S2x512x2048 .f32) (harg12 : arg12.IsWhole) (arg13 : Memref sig .tc .vmem S2x512x2048 .f32) (harg13 : arg13.IsWhole) (arg14 : Memref sig .tc .vmem S2x1x2048 .f32) (harg14 : arg14.IsWhole) (arg15 : Memref sig .tc .vmem S2x1x2048 .f32) (harg15 : arg15.IsWhole)

/-- The body's first statements after the values' transposing. -/
def lead : Prog (TpuEff nD τ sig (Elt F) Λ₀ .tc) (Σ' (v13 : FVec F S128x2048 .bf16) (v20 : FVec F S128x2048 .bf16) (v31 : Vec F S512x128 .bf16), FVec F S512x256 .f32) := do
  let x : Vec F S2048x128 .bf16 ← Prog.lift (.load arg3 (Rect.unit (s := S2048x128) ![0, 0] S2048x128.size inb_S2048x128_S2048x128_0_0).toLoadRect (View.loadsAt_vmem h_S2048x128))
  let _d : Vec F S2x1x2048 .f32 ← Prog.lift (.load arg10 (Rect.unit (s := S2x1x2048) ![0, 0, 0] S2x1x2048.size inb_S2x1x2048_S2x1x2048_0_0_0).toLoadRect (View.loadsAt_vmem h_S2x1x2048))
  Prog.lift (.store arg10 (Rect.unit (s := S2x1x2048) ![0, 0, 0] S2x1x2048.size inb_S2x1x2048_S2x1x2048_0_0_0) m0Pay Finset.univ (View.stores_vmem_bits_univ h_S2x1x2048 rfl) (.inl rfl))
  let _e : Vec F S2x144x2048 .f32 ← Prog.lift (.load arg11 (Rect.unit (s := S2x144x2048) ![0, 0, 0] S2x144x2048.size inb_S2x144x2048_S2x144x2048_0_0_0).toLoadRect (View.loadsAt_vmem h_S2x144x2048))
  Prog.lift (.store arg11 (Rect.unit (s := S2x144x2048) ![0, 0, 0] S2x144x2048.size inb_S2x144x2048_S2x144x2048_0_0_0) a0Pay Finset.univ (View.stores_vmem_bits_univ h_S2x144x2048 rfl) (.inl rfl))
  let kc : Vec F S512x128 .bf16 ← Prog.lift (.load arg4 (rK 0).toLoadRect (View.loadsAt_vmem h_S512x128))
  pure ⟨q0Pay x, q1Pay x, kc, sc kc (q0Pay x) 0⟩

set_option maxRecDepth 65536 in
theorem lead_eq : k0_part45 (F := F) i arg3 harg3 arg4 harg4 arg5 harg5 arg6 harg6 arg7 harg7 arg8 harg8 arg9 harg9 arg10 harg10 arg11 harg11 arg12 harg12 arg13 harg13 arg14 harg14 arg15 harg15
    = (dite (firstPt i = 1#1) (fun _ => (fills fun j => fill arg5 arg9 harg9 j) >>= fun _ => lead arg3 arg4 arg10 arg11) (fun _ => lead arg3 arg4 arg10 arg11)) := by
  sl_kernel_rfl

/-- The last tile of the first block's scores, from its first maximum's store on. -/
def lastTile (q0 q1 : FVec F S128x2048 .bf16) (cm : FVec F S1x256 .f32) : Prog (TpuEff nD τ sig (Elt F) Λ₀ .tc) PUnit := do
  let _d : Vec F S1x1x256 .f32 ← Prog.lift (.load arg14 (rC 1 6).toLoadRect (View.loadsAt_vmem h_S1x1x256))
  Prog.lift (.store arg14 (rC 1 6) (shapeCast S1x1x256 cm shapeCasts_S1x256_S1x1x256) Finset.univ (View.stores_vmem_bits_univ h_S1x1x256 rfl) (.inl rfl))
  score arg4 arg12 arg14 q0 q1 ![512 * (0 : Fin 16).val, 0] (inbK 0) 7

set_option maxRecDepth 65536 in
theorem loop_eq (v13 v20 : FVec F S128x2048 .bf16) (v186 : FVec F S1x256 .f32) : k0_part51 (F := F) i arg3 harg3 arg4 harg4 arg5 harg5 arg6 harg6 arg7 harg7 arg8 harg8 arg9 harg9 arg10 harg10 arg11 harg11 arg12 harg12 arg13 harg13 arg14 harg14 arg15 harg15 v13 v20 v186
    = (lastTile arg4 arg12 arg14 v13 v20 v186 >>= fun _ => loopP arg4 arg9 arg10 arg11 arg12 arg13 arg14 arg15 v13 v20) := by
  have hb : (fun (k0_t1 : Fin k0_t1_loop.trips) (_ : PUnit) => (do
          let v2519 : FVec F S1x1x256 .f32 ← k0_part44 i arg3 harg3 arg4 harg4 arg5 harg5 arg6 harg6 arg7 harg7 arg8 harg8 arg9 harg9 arg10 harg10 arg11 harg11 arg12 harg12 arg13 harg13 arg14 harg14 arg15 harg15 v13 v20 0#32 1#32 k0_t1
          Prog.lift (.store arg10 (Rect.unit (s := S2x1x2048) ![1, 0, 1792] S1x1x256.size inb_S2x1x2048_S1x1x256_1_0_1792) v2519 Finset.univ (View.stores_vmem_bits_univ h_S1x1x256 rfl) (.inl rfl)) : Prog (TpuEff nD τ sig (Elt F) Λ₀ .tc) PUnit))
      = fun k _ => trip arg4 arg9 arg10 arg11 arg12 arg13 arg14 arg15 v13 v20 k :=
    funext fun k => funext fun _ => body_eq_trip i arg3 harg3 arg4 harg4 arg5 harg5 arg6 harg6 arg7 harg7 arg8 harg8 arg9 harg9 arg10 harg10 arg11 harg11 arg12 harg12 arg13 harg13 arg14 harg14 arg15 harg15 v13 v20 k
  have h : k0_part51 (F := F) i arg3 harg3 arg4 harg4 arg5 harg5 arg6 harg6 arg7 harg7 arg8 harg8 arg9 harg9 arg10 harg10 arg11 harg11 arg12 harg12 arg13 harg13 arg14 harg14 arg15 harg15 v13 v20 v186
      = (lastTile arg4 arg12 arg14 v13 v20 v186 >>= fun _ => (Scf.Loop.for k0_t1_loop k0_t1_ok ⟨⟩ fun k0_t1 _ => do
          let v2519 : FVec F S1x1x256 .f32 ← k0_part44 i arg3 harg3 arg4 harg4 arg5 harg5 arg6 harg6 arg7 harg7 arg8 harg8 arg9 harg9 arg10 harg10 arg11 harg11 arg12 harg12 arg13 harg13 arg14 harg14 arg15 harg15 v13 v20 0#32 1#32 k0_t1
          Prog.lift (.store arg10 (Rect.unit (s := S2x1x2048) ![1, 0, 1792] S1x1x256.size inb_S2x1x2048_S1x1x256_1_0_1792) v2519 Finset.univ (View.stores_vmem_bits_univ h_S1x1x256 rfl) (.inl rfl))) >>= fun _ => pure ⟨⟩) := by sl_kernel_rfl
  refine h.trans (congrArg (fun p : Prog (TpuEff nD τ sig (Elt F) Λ₀ .tc) PUnit => lastTile arg4 arg12 arg14 v13 v20 v186 >>= fun _ => p) ?_)
  exact (Prog.bind_pure _).trans (congrArg (Scf.Loop.for k0_t1_loop k0_t1_ok ⟨⟩) hb)

end

set_option maxRecDepth 65536 in
/-- The printed body is its jobs. -/
theorem body_eq (i : grid0.Coords) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S2048x128 .bf16) (harg8 : arg8.IsWhole) (arg9 : Memref sig .tc .vmem S16x144x512 .bf16) (harg9 : arg9.IsWhole) (arg10 : Memref sig .tc .vmem S2x1x2048 .f32) (harg10 : arg10.IsWhole) (arg11 : Memref sig .tc .vmem S2x144x2048 .f32) (harg11 : arg11.IsWhole) (arg12 : Memref sig .tc .vmem S2x512x2048 .f32) (harg12 : arg12.IsWhole) (arg13 : Memref sig .tc .vmem S2x512x2048 .f32) (harg13 : arg13.IsWhole) (arg14 : Memref sig .tc .vmem S2x1x2048 .f32) (harg14 : arg14.IsWhole) (arg15 : Memref sig .tc .vmem S2x1x2048 .f32) (harg15 : arg15.IsWhole) :
    cc0_diff_attn (F := F) i arg3 harg3 arg4 harg4 arg5 harg5 arg6 harg6 arg7 harg7 arg8 harg8 arg9 harg9 arg10 harg10 arg11 harg11 arg12 harg12 arg13 harg13 arg14 harg14 arg15 harg15
      = (do if h : firstPt i = 1#1 then do
              fills fun j => fill arg5 arg9 harg9 j
            else do
              pure ⟨⟩
            bodyMain arg3 arg4 arg6 arg7 arg8 harg8 arg9 arg10 arg11 arg12 arg13 arg14 arg15) := by
  have hL : ∀ v13 v20 v186, k0_part51 (F := F) i arg3 harg3 arg4 harg4 arg5 harg5 arg6 harg6 arg7 harg7 arg8 harg8 arg9 harg9 arg10 harg10 arg11 harg11 arg12 harg12 arg13 harg13 arg14 harg14 arg15 harg15 v13 v20 v186
      = (lastTile arg4 arg12 arg14 v13 v20 v186 >>= fun _ => loopP arg4 arg9 arg10 arg11 arg12 arg13 arg14 arg15 v13 v20) :=
    fun v13 v20 v186 => loop_eq i arg3 harg3 arg4 harg4 arg5 harg5 arg6 harg6 arg7 harg7 arg8 harg8 arg9 harg9 arg10 harg10 arg11 harg11 arg12 harg12 arg13 harg13 arg14 harg14 arg15 harg15 v13 v20 v186
  unfold cc0_diff_attn
  rw [lead_eq]
  simp only [hL]
  by_cases h : firstPt i = 1#1
  · rw [dif_pos h, dif_pos h, Prog.bind_assoc]
    sl_kernel_rfl
  · rw [dif_neg h, dif_neg h]
    sl_kernel_rfl

end Cert.KernelIdeal.Attn

end
-- ==== Proof.Owned.lean ====
/- Loads and stores of a memref owned at known contents: a load through a rectangle continues at the contents the
   rectangle selects, a store through a rectangle leaves the contents updated there. -/
module

public import proofs.«01_k».proof.Proof.Gen.KernelIdeal.Frame
public import proofs.«01_k».proof.Proof.Jobs

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-! ## Contents through a rectangle -/

section Pure
variable {s : Shape} {V : Type}

/-- What a rectangle selects. -/
def rd (r : Rect s) (X : s.Idx → V) : r.shape.Idx → V := fun x => X (r.emb x)

open Classical in
/-- The contents with `w` written through a rectangle. -/
def upd (r : Rect s) (w : r.shape.Idx → V) (X : s.Idx → V) : s.Idx → V :=
  fun y => if h : ∃ x, r.emb x = y then w h.choose else X y

theorem upd_emb (r : Rect s) (w : r.shape.Idx → V) (X : s.Idx → V) (x : r.shape.Idx) : upd r w X (r.emb x) = w x := by
  have h : ∃ x', r.emb x' = r.emb x := ⟨x, rfl⟩
  unfold upd
  rw [dif_pos h]
  exact congrArg w (r.emb.injective h.choose_spec)

theorem upd_off (r : Rect s) (w : r.shape.Idx → V) (X : s.Idx → V) {y : s.Idx} (h : ∀ x, r.emb x ≠ y) : upd r w X y = X y :=
  dif_neg fun ⟨x, hx⟩ => h x hx

theorem rd_upd (r : Rect s) (w : r.shape.Idx → V) (X : s.Idx → V) : rd r (upd r w X) = w :=
  funext fun x => upd_emb r w X x

theorem rd_upd_off (r r' : Rect s) (w : r'.shape.Idx → V) (X : s.Idx → V) (h : ∀ x x', r'.emb x' ≠ r.emb x) : rd r (upd r' w X) = rd r X :=
  funext fun x => upd_off r' w X (h x)

end Pure

variable {F : FTy → Type} [FloatOps F]

local notation "𝕄" => MT nD τ sig Unit (Elt F) ℕ (UR sig nD τ) ℕ

/-- The body's weakest precondition on core `c`. -/
abbrev wpB (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

variable (c : Dev nD) {s : Shape} {e : EltTy}

theorem read_write_slice (v : View sig .tc .vmem s e) (r : Rect s) (f : v.ty.Contents (Elt F)) (w : r.shape.Idx → Elt F e) :
    v.read (Elt F) ((v.slice r).write (Elt F) f w Finset.univ) = upd r w (v.read (Elt F) f) := by
  funext y
  by_cases h : ∃ x, r.emb x = y
  · obtain ⟨x, rfl⟩ := h
    rw [upd_emb, View.read_slice_write_emb r f w (Finset.mem_univ x)]
  · rw [upd_off r w _ (fun x hx => h ⟨x, hx⟩), View.read_slice_write_of_not_mem]
    intro hm
    obtain ⟨x, -, hx⟩ := Finset.mem_map.mp hm
    exact h ⟨x, hx⟩

theorem wp_load_owns (m : Memref sig .tc .vmem s e) (r : Rect s) (hl : m.view.LoadsAt r.toLoadRect) (X : s.Idx → Elt F e) {α : Type}
    (k : (r.shape.Idx → Elt F e) → Prog (TpuEff nD τ sig (Elt F) Λ₀ .tc) α) (Q : α → sProp 𝕄) :
    owns (c : Thread nD τ) m fullShare X
      ⊢ iprop((owns (c : Thread nD τ) m fullShare X -∗ wpB c (k (rd r X)) Q) -∗ wpB c (Prog.lift (.load m r.toLoadRect hl) >>= k) Q) := by
  unfold owns
  iintro ⟨%f, %hf, H⟩ HK
  subst hf
  iapply (wp_load (defs := defs₀ (F := F)) Variants.none (c : Thread nD τ) none Set.univ (m := m) (r := r.toLoadRect) (hl := hl) (k := k) (S := m.view.set) (f := f)
    (Finset.map_subset_map.mpr (Finset.subset_univ _))) $$ H
  iintro H
  iapply HK
  iexists f
  isplitr
  · ipureintro; rfl
  · iexact H

theorem wp_store_owns (m : Memref sig .tc .vmem s e) (r : Rect s) (w : r.shape.Idx → Elt F e) (hx : (m.access r).Stores Finset.univ)
    (hm : (Finset.univ : Finset r.shape.Idx) = Finset.univ ∨ ∀ a, r.stride a = 1) (X : s.Idx → Elt F e) {α : Type}
    (k : PUnit → Prog (TpuEff nD τ sig (Elt F) Λ₀ .tc) α) (Q : α → sProp 𝕄) :
    owns (c : Thread nD τ) m fullShare X
      ⊢ iprop((owns (c : Thread nD τ) m fullShare (upd r w X) -∗ wpB c (k ⟨⟩) Q) -∗ wpB c (Prog.lift (.store m r w Finset.univ hx hm) >>= k) Q) := by
  unfold owns
  iintro ⟨%f, %hf, H⟩ HK
  subst hf
  iapply (wp_store (defs := defs₀ (F := F)) Variants.none (c : Thread nD τ) none Set.univ (m := m) (r := r) (w := w) (hx := hx) (hm := hm) (k := k) (S := m.view.set) (f := f) (by
    rw [View.setOn_univ]
    exact (View.set_slice (v := m.view) r).symm ▸ Finset.map_subset_map.mpr (Finset.subset_univ _))) $$ H
  iintro H
  iapply HK
  iexists _
  isplitr
  swap
  · iexact H
  · ipureintro; exact read_write_slice m.view r f w

end Cert.KernelIdeal.Attn

end
-- ==== Proof.Steps.lean ====
/- What each job leaves, as a function of what the buffers held; a query tile's contents are its own recursion over the
   blocks of keys, whichever of the two score buffers a block passes through. -/
module

public import proofs.«01_k».proof.Proof.Owned

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## The contents the jobs leave -/

variable (F) in
abbrev XS := S2x512x2048.Idx → Elt F .f32
variable (F) in
abbrev XC := S2x1x2048.Idx → Elt F .f32
variable (F) in
abbrev XA := S2x144x2048.Idx → Elt F .f32
variable (F) in
abbrev XV := S16x144x512.Idx → Elt F .bf16
variable (F) in
abbrev XK := S8192x128.Idx → Elt F .bf16

def scS (kc : Vec F S512x128 .bf16) (q0 q1 : FVec F S128x2048 .bf16) (t : Fin 8) (X : XS F) : XS F :=
  upd (rS 1 t) (scPay kc q1 t) (upd (rS 0 t) (scPay kc q0 t) X)

def scC (kc : Vec F S512x128 .bf16) (q0 q1 : FVec F S128x2048 .bf16) (t : Fin 8) (X : XC F) : XC F :=
  upd (rC 1 t) (cmPay kc q1 t) (upd (rC 0 t) (cmPay kc q0 t) X)

def acM (c : Fin 2) (t : Fin 8) (Xc Xm : XC F) : XC F := upd (rC c t) (mPay (rd (rC c t) Xm) (rd (rC c t) Xc)) Xm

def acA (c : Fin 2) (t : Fin 8) (vt : Vec F S1x144x512 .bf16) (Xs : XS F) (Xc Xm : XC F) (Xa : XA F) : XA F :=
  upd (rA c t) (accPay vt (rd (rC c t) Xm) (rd (rC c t) Xc) (rd (rS c t) Xs) (rd (rA c t) Xa)) Xa

variable (F) in
/-- The contents of the scratch a point's blocks pass through. -/
structure St where
  m : XC F
  a : XA F
  s0 : XS F
  s1 : XS F
  c0 : XC F
  c1 : XC F

def St.score0 (kc : Vec F S512x128 .bf16) (q0 q1 : FVec F S128x2048 .bf16) (t : Fin 8) (σ : St F) : St F :=
  { σ with s0 := scS kc q0 q1 t σ.s0, c0 := scC kc q0 q1 t σ.c0 }
def St.score1 (kc : Vec F S512x128 .bf16) (q0 q1 : FVec F S128x2048 .bf16) (t : Fin 8) (σ : St F) : St F :=
  { σ with s1 := scS kc q0 q1 t σ.s1, c1 := scC kc q0 q1 t σ.c1 }
def St.accum0 (vt : Vec F S1x144x512 .bf16) (t : Fin 8) (σ : St F) : St F :=
  { σ with m := acM 1 t σ.c0 (acM 0 t σ.c0 σ.m), a := acA 1 t vt σ.s0 σ.c0 (acM 0 t σ.c0 σ.m) (acA 0 t vt σ.s0 σ.c0 σ.m σ.a) }
def St.accum1 (vt : Vec F S1x144x512 .bf16) (t : Fin 8) (σ : St F) : St F :=
  { σ with m := acM 1 t σ.c1 (acM 0 t σ.c1 σ.m), a := acA 1 t vt σ.s1 σ.c1 (acM 0 t σ.c1 σ.m) (acA 0 t vt σ.s1 σ.c1 σ.m σ.a) }

/-! ## The jobs' triples -/

variable (c : Dev nD)

theorem wp_scoreComp (sb : Memref sig .tc .vmem S2x512x2048 .f32) (cb : Memref sig .tc .vmem S2x1x2048 .f32) (cc : Fin 2) (t : Fin 8)
    (kc : Vec F S512x128 .bf16) (q : FVec F S128x2048 .bf16) (Xs : XS F) (Xc : XC F) (k : PUnit → Prog (TpuEff nD τ sig (Elt F) Λ₀ .tc) PUnit) (Q : PUnit → sProp 𝕄) :
    iprop(owns (c : Thread nD τ) sb fullShare Xs ∗ owns (c : Thread nD τ) cb fullShare Xc)
      ⊢ iprop((owns (c : Thread nD τ) sb fullShare (upd (rS cc t) (scPay kc q t) Xs) ∗ owns (c : Thread nD τ) cb fullShare (upd (rC cc t) (cmPay kc q t) Xc) -∗ wpB c (k ⟨⟩) Q)
        -∗ wpB c (scoreComp sb cb cc t kc q >>= k) Q) := by
  unfold scoreComp
  simp only [Prog.bind_assoc]
  iintro ⟨Hs, Hc⟩ HK
  iapply (wp_load_owns c sb (rS cc t)) $$ Hs; iintro Hs
  iapply (wp_store_owns c sb (rS cc t)) $$ Hs; iintro Hs
  iapply (wp_load_owns c cb (rC cc t)) $$ Hc; iintro Hc
  iapply (wp_store_owns c cb (rC cc t)) $$ Hc; iintro Hc
  iapply HK
  isplitl [Hs] <;> iassumption

theorem wp_accComp (mb : Memref sig .tc .vmem S2x1x2048 .f32) (ab : Memref sig .tc .vmem S2x144x2048 .f32) (sb : Memref sig .tc .vmem S2x512x2048 .f32)
    (cb : Memref sig .tc .vmem S2x1x2048 .f32) (cc : Fin 2) (t : Fin 8) (vt : Vec F S1x144x512 .bf16)
    (Xm : XC F) (Xa : XA F) (Xs : XS F) (Xc : XC F) (k : PUnit → Prog (TpuEff nD τ sig (Elt F) Λ₀ .tc) PUnit) (Q : PUnit → sProp 𝕄) :
    iprop(owns (c : Thread nD τ) mb fullShare Xm ∗ owns (c : Thread nD τ) ab fullShare Xa ∗ owns (c : Thread nD τ) sb fullShare Xs ∗ owns (c : Thread nD τ) cb fullShare Xc)
      ⊢ iprop((owns (c : Thread nD τ) mb fullShare (acM cc t Xc Xm) ∗ owns (c : Thread nD τ) ab fullShare (acA cc t vt Xs Xc Xm Xa)
            ∗ owns (c : Thread nD τ) sb fullShare Xs ∗ owns (c : Thread nD τ) cb fullShare Xc -∗ wpB c (k ⟨⟩) Q)
        -∗ wpB c (accComp mb ab sb cb cc t vt >>= k) Q) := by
  unfold accComp acM acA
  simp only [Prog.bind_assoc]
  iintro ⟨Hm, Ha, Hs, Hc⟩ HK
  iapply (wp_load_owns c mb (rC cc t)) $$ Hm; iintro Hm
  iapply (wp_load_owns c cb (rC cc t)) $$ Hc; iintro Hc
  iapply (wp_load_owns c sb (rS cc t)) $$ Hs; iintro Hs
  iapply (wp_load_owns c ab (rA cc t)) $$ Ha; iintro Ha
  iapply (wp_load_owns c ab (rA cc t)) $$ Ha; iintro Ha
  iapply (wp_store_owns c ab (rA cc t)) $$ Ha; iintro Ha
  iapply (wp_load_owns c mb (rC cc t)) $$ Hm; iintro Hm
  iapply (wp_store_owns c mb (rC cc t)) $$ Hm; iintro Hm
  iapply HK
  isplitl [Hm]; · iassumption
  isplitl [Ha]; · iassumption
  isplitl [Hs] <;> iassumption

/-- Keys from a row on. -/
abbrev rKo (off : Fin 2 → ℕ) (ho : ∀ a, off a + S512x128.size a ≤ S8192x128.size a) : Rect S8192x128 := Rect.unit (s := S8192x128) off S512x128.size ho
/-- A block of transposed values. -/
abbrev rVo (off : Fin 3 → ℕ) (ho : ∀ a, off a + S1x144x512.size a ≤ S16x144x512.size a) : Rect S16x144x512 := Rect.unit (s := S16x144x512) off S1x144x512.size ho

theorem wp_score (kb : Memref sig .tc .vmem S8192x128 .bf16) (sb : Memref sig .tc .vmem S2x512x2048 .f32) (cb : Memref sig .tc .vmem S2x1x2048 .f32)
    (q0 q1 : FVec F S128x2048 .bf16) (off : Fin 2 → ℕ) (ho : ∀ a, off a + S512x128.size a ≤ S8192x128.size a) (t : Fin 8)
    (xk : XK F) (Xs : XS F) (Xc : XC F) :
    iprop(owns (c : Thread nD τ) kb fullShare xk ∗ owns (c : Thread nD τ) sb fullShare Xs ∗ owns (c : Thread nD τ) cb fullShare Xc)
      ⊢ wpB c (score kb sb cb q0 q1 off ho t) (fun _ => iprop(owns (c : Thread nD τ) kb fullShare xk ∗ owns (c : Thread nD τ) sb fullShare (scS (rd (rKo off ho) xk) q0 q1 t Xs)
          ∗ owns (c : Thread nD τ) cb fullShare (scC (rd (rKo off ho) xk) q0 q1 t Xc))) := by
  rw [← Prog.bind_pure (score kb sb cb q0 q1 off ho t)]
  unfold score scS scC
  simp only [Prog.bind_assoc]
  iintro ⟨Hk, Hs, Hc⟩
  iapply (wp_load_owns c kb (rKo off ho)) $$ Hk; iintro Hk
  iapply (wp_scoreComp c sb cb 0 t) $$ [Hs Hc]
  · isplitl [Hs] <;> iassumption
  iintro ⟨Hs, Hc⟩
  iapply (wp_scoreComp c sb cb 1 t) $$ [Hs Hc]
  · isplitl [Hs] <;> iassumption
  iintro ⟨Hs, Hc⟩
  iapply (le_wp_ret frame (wpE (defs₀ (F := F)) Variants.none (c : Thread nD τ) none) Set.univ PUnit.unit)
  isplitl [Hk]; · iassumption
  isplitl [Hs] <;> iassumption

theorem wp_accum (vb : Memref sig .tc .vmem S16x144x512 .bf16) (mb : Memref sig .tc .vmem S2x1x2048 .f32) (ab : Memref sig .tc .vmem S2x144x2048 .f32)
    (sb : Memref sig .tc .vmem S2x512x2048 .f32) (cb : Memref sig .tc .vmem S2x1x2048 .f32)
    (off : Fin 3 → ℕ) (ho : ∀ a, off a + S1x144x512.size a ≤ S16x144x512.size a) (t : Fin 8)
    (Xv : XV F) (Xm : XC F) (Xa : XA F) (Xs : XS F) (Xc : XC F) :
    iprop(owns (c : Thread nD τ) vb fullShare Xv ∗ owns (c : Thread nD τ) mb fullShare Xm ∗ owns (c : Thread nD τ) ab fullShare Xa ∗ owns (c : Thread nD τ) sb fullShare Xs ∗ owns (c : Thread nD τ) cb fullShare Xc)
      ⊢ wpB c (accum vb mb ab sb cb off ho t) (fun _ => iprop(owns (c : Thread nD τ) vb fullShare Xv ∗ owns (c : Thread nD τ) mb fullShare (acM 1 t Xc (acM 0 t Xc Xm))
          ∗ owns (c : Thread nD τ) ab fullShare (acA 1 t (rd (rVo off ho) Xv) Xs Xc (acM 0 t Xc Xm) (acA 0 t (rd (rVo off ho) Xv) Xs Xc Xm Xa))
          ∗ owns (c : Thread nD τ) sb fullShare Xs ∗ owns (c : Thread nD τ) cb fullShare Xc)) := by
  rw [← Prog.bind_pure (accum vb mb ab sb cb off ho t)]
  unfold accum
  simp only [Prog.bind_assoc]
  iintro ⟨Hv, H⟩
  iapply (wp_load_owns c vb (rVo off ho)) $$ Hv; iintro Hv
  iapply (wp_accComp c mb ab sb cb 0 t) $$ H
  iintro H
  iapply (wp_accComp c mb ab sb cb 1 t) $$ H
  iintro H
  iapply (le_wp_ret frame (wpE (defs₀ (F := F)) Variants.none (c : Thread nD τ) none) Set.univ PUnit.unit)
  isplitl [Hv]; · iassumption
  iassumption

/-! ## Jobs on the whole scratch -/

/-- The memrefs the blocks pass through. -/
structure Bufs where
  kb : Memref sig .tc .vmem S8192x128 .bf16
  vb : Memref sig .tc .vmem S16x144x512 .bf16
  mb : Memref sig .tc .vmem S2x1x2048 .f32
  ab : Memref sig .tc .vmem S2x144x2048 .f32
  s0 : Memref sig .tc .vmem S2x512x2048 .f32
  s1 : Memref sig .tc .vmem S2x512x2048 .f32
  c0 : Memref sig .tc .vmem S2x1x2048 .f32
  c1 : Memref sig .tc .vmem S2x1x2048 .f32

variable (B : Bufs) (xk : XK F) (Xv : XV F)

def own (σ : St F) : sProp 𝕄 :=
  iprop(owns (c : Thread nD τ) B.kb fullShare xk ∗ owns (c : Thread nD τ) B.vb fullShare Xv ∗ owns (c : Thread nD τ) B.mb fullShare σ.m ∗ owns (c : Thread nD τ) B.ab fullShare σ.a
    ∗ owns (c : Thread nD τ) B.s0 fullShare σ.s0 ∗ owns (c : Thread nD τ) B.s1 fullShare σ.s1 ∗ owns (c : Thread nD τ) B.c0 fullShare σ.c0 ∗ owns (c : Thread nD τ) B.c1 fullShare σ.c1)

/-- The program takes the scratch from `σ` to `g σ`. -/
def Tr (p : Prog (TpuEff nD τ sig (Elt F) Λ₀ .tc) PUnit) (g : St F → St F) : Prop :=
  ∀ σ, own c B xk Xv σ ⊢ wpB c p (fun _ => own c B xk Xv (g σ))

variable {c B xk Xv}

theorem Tr.seq {p p' : Prog (TpuEff nD τ sig (Elt F) Λ₀ .tc) PUnit} {g g' : St F → St F} (h : Tr c B xk Xv p g) (h' : Tr c B xk Xv p' g') :
    Tr c B xk Xv (p >>= fun _ => p') (fun σ => g' (g σ)) := by
  intro σ
  unfold wpB
  rw [wp_bind]
  exact (h σ).trans (wp_mono _ _ _ fun _ => h' (g σ))

def tilesF (g : Fin 8 → St F → St F) (σ : St F) : St F := g 7 (g 6 (g 5 (g 4 (g 3 (g 2 (g 1 (g 0 σ)))))))

theorem Tr.tiles {p : Fin 8 → Prog (TpuEff nD τ sig (Elt F) Λ₀ .tc) PUnit} {g : Fin 8 → St F → St F} (h : ∀ t, Tr c B xk Xv (p t) (g t)) :
    Tr c B xk Xv (tiles p) (tilesF g) :=
  (h 0).seq ((h 1).seq ((h 2).seq ((h 3).seq ((h 4).seq ((h 5).seq ((h 6).seq (h 7)))))))

theorem tr_score0 (q0 q1 : FVec F S128x2048 .bf16) (off : Fin 2 → ℕ) (ho) (t : Fin 8) :
    Tr c B xk Xv (score B.kb B.s0 B.c0 q0 q1 off ho t) (St.score0 (rd (rKo off ho) xk) q0 q1 t) := by
  intro σ
  unfold own St.score0
  dsimp only
  iintro ⟨Hk, Hv, Hm, Ha, Hs0, Hs1, Hc0, Hc1⟩
  iapply (wp_wand frame (wpE (defs₀ (F := F)) Variants.none (c : Thread nD τ) none) Set.univ) $$ [Hk Hs0 Hc0]
  · iapply (wp_score c B.kb B.s0 B.c0 q0 q1 off ho t xk σ.s0 σ.c0)
    isplitl [Hk]; · iassumption
    isplitl [Hs0] <;> iassumption
  iintro %u ⟨Hk, Hs0, Hc0⟩
  isplitl [Hk]; · iassumption
  isplitl [Hv]; · iassumption
  isplitl [Hm]; · iassumption
  isplitl [Ha]; · iassumption
  isplitl [Hs0]; · iassumption
  isplitl [Hs1]; · iassumption
  isplitl [Hc0] <;> iassumption

theorem tr_score1 (q0 q1 : FVec F S128x2048 .bf16) (off : Fin 2 → ℕ) (ho) (t : Fin 8) :
    Tr c B xk Xv (score B.kb B.s1 B.c1 q0 q1 off ho t) (St.score1 (rd (rKo off ho) xk) q0 q1 t) := by
  intro σ
  unfold own St.score1
  dsimp only
  iintro ⟨Hk, Hv, Hm, Ha, Hs0, Hs1, Hc0, Hc1⟩
  iapply (wp_wand frame (wpE (defs₀ (F := F)) Variants.none (c : Thread nD τ) none) Set.univ) $$ [Hk Hs1 Hc1]
  · iapply (wp_score c B.kb B.s1 B.c1 q0 q1 off ho t xk σ.s1 σ.c1)
    isplitl [Hk]; · iassumption
    isplitl [Hs1] <;> iassumption
  iintro %u ⟨Hk, Hs1, Hc1⟩
  isplitl [Hk]; · iassumption
  isplitl [Hv]; · iassumption
  isplitl [Hm]; · iassumption
  isplitl [Ha]; · iassumption
  isplitl [Hs0]; · iassumption
  isplitl [Hs1]; · iassumption
  isplitl [Hc0] <;> iassumption

theorem tr_accum0 (off : Fin 3 → ℕ) (ho) (t : Fin 8) :
    Tr c B xk Xv (accum B.vb B.mb B.ab B.s0 B.c0 off ho t) (St.accum0 (rd (rVo off ho) Xv) t) := by
  intro σ
  unfold own St.accum0
  dsimp only
  iintro ⟨Hk, Hv, Hm, Ha, Hs0, Hs1, Hc0, Hc1⟩
  iapply (wp_wand frame (wpE (defs₀ (F := F)) Variants.none (c : Thread nD τ) none) Set.univ) $$ [Hv Hm Ha Hs0 Hc0]
  · iapply (wp_accum c B.vb B.mb B.ab B.s0 B.c0 off ho t Xv σ.m σ.a σ.s0 σ.c0)
    isplitl [Hv]; · iassumption
    isplitl [Hm]; · iassumption
    isplitl [Ha]; · iassumption
    isplitl [Hs0] <;> iassumption
  iintro %u ⟨Hv, Hm, Ha, Hs0, Hc0⟩
  isplitl [Hk]; · iassumption
  isplitl [Hv]; · iassumption
  isplitl [Hm]; · iassumption
  isplitl [Ha]; · iassumption
  isplitl [Hs0]; · iassumption
  isplitl [Hs1]; · iassumption
  isplitl [Hc0] <;> iassumption

theorem tr_accum1 (off : Fin 3 → ℕ) (ho) (t : Fin 8) :
    Tr c B xk Xv (accum B.vb B.mb B.ab B.s1 B.c1 off ho t) (St.accum1 (rd (rVo off ho) Xv) t) := by
  intro σ
  unfold own St.accum1
  dsimp only
  iintro ⟨Hk, Hv, Hm, Ha, Hs0, Hs1, Hc0, Hc1⟩
  iapply (wp_wand frame (wpE (defs₀ (F := F)) Variants.none (c : Thread nD τ) none) Set.univ) $$ [Hv Hm Ha Hs1 Hc1]
  · iapply (wp_accum c B.vb B.mb B.ab B.s1 B.c1 off ho t Xv σ.m σ.a σ.s1 σ.c1)
    isplitl [Hv]; · iassumption
    isplitl [Hm]; · iassumption
    isplitl [Ha]; · iassumption
    isplitl [Hs1] <;> iassumption
  iintro %u ⟨Hv, Hm, Ha, Hs1, Hc1⟩
  isplitl [Hk]; · iassumption
  isplitl [Hv]; · iassumption
  isplitl [Hm]; · iassumption
  isplitl [Ha]; · iassumption
  isplitl [Hs0]; · iassumption
  isplitl [Hs1]; · iassumption
  isplitl [Hc0] <;> iassumption

/-! ## The blocks -/

/-- Block `n` of the keys, -/
def kBlk (xk : XK F) (n : ℕ) : Vec F S512x128 .bf16 := rd (rK ⟨n % 16, Nat.mod_lt _ (by decide)⟩) xk
/-- and of the transposed values. -/
def vBlk (Xv : XV F) (n : ℕ) : Vec F S1x144x512 .bf16 := rd (rV ⟨n % 16, Nat.mod_lt _ (by decide)⟩) Xv

theorem rd_rKo (off : Fin 2 → ℕ) (ho) (n : ℕ) (h : off = ![512 * (n % 16), 0]) (xk : XK F) : rd (rKo off ho) xk = kBlk xk n := by
  subst h; rfl

theorem rd_rVo (off : Fin 3 → ℕ) (ho) (n : ℕ) (h : off = ![n % 16, 0, 0]) (Xv : XV F) : rd (rVo off ho) Xv = vBlk Xv n := by
  subst h; rfl

theorem off1_0 : ∀ k : Fin k0_t1_loop.trips, k0_off1 k 0#32 = ![512 * ((2 * k.val + 1) % 16), 0] := by decide +kernel
theorem off1_1 : ∀ k : Fin k0_t1_loop.trips, k0_off1 k 1#32 = ![512 * ((2 * k.val + 2) % 16), 0] := by decide +kernel
theorem off2_0 : ∀ k : Fin k0_t1_loop.trips, k0_off2 k 0#32 = ![(2 * k.val) % 16, 0, 0] := by decide +kernel
theorem off2_1 : ∀ k : Fin k0_t1_loop.trips, k0_off2 k 1#32 = ![(2 * k.val + 1) % 16, 0, 0] := by decide +kernel

/-- Block `n` accumulated from the first buffer, the next scored into the second, -/
def step0 (xk : XK F) (Xv : XV F) (q0 q1 : FVec F S128x2048 .bf16) (n : ℕ) : St F → St F :=
  tilesF fun t σ => St.accum0 (vBlk Xv n) t (St.score1 (kBlk xk (n + 1)) q0 q1 t σ)
/-- and the other way round. -/
def step1 (xk : XK F) (Xv : XV F) (q0 q1 : FVec F S128x2048 .bf16) (n : ℕ) : St F → St F :=
  tilesF fun t σ => St.accum1 (vBlk Xv n) t (St.score0 (kBlk xk (n + 1)) q0 q1 t σ)

def loopF (xk : XK F) (Xv : XV F) (q0 q1 : FVec F S128x2048 .bf16) (σ : St F) : ℕ → St F
  | 0 => σ
  | n + 1 => step1 xk Xv q0 q1 (2 * n + 1) (step0 xk Xv q0 q1 (2 * n) (loopF xk Xv q0 q1 σ n))

theorem tr_trip (q0 q1 : FVec F S128x2048 .bf16) (k : Fin k0_t1_loop.trips) :
    Tr c B xk Xv (trip B.kb B.vb B.mb B.ab B.s0 B.s1 B.c0 B.c1 q0 q1 k)
      (fun σ => step1 xk Xv q0 q1 (2 * k.val + 1) (step0 xk Xv q0 q1 (2 * k.val) σ)) := by
  refine Tr.seq (Tr.tiles fun t => ?_) (Tr.tiles fun t => ?_)
  · rw [← rd_rKo _ (k0_off1_inb k 0) _ (off1_0 k), ← rd_rVo _ (k0_off2_inb k 0) _ (off2_0 k)]
    exact Tr.seq (tr_score1 q0 q1 _ _ t) (tr_accum0 _ _ t)
  · rw [← rd_rKo _ (k0_off1_inb k 1) _ (off1_1 k), ← rd_rVo _ (k0_off2_inb k 1) _ (off2_1 k)]
    exact Tr.seq (tr_score0 q0 q1 _ _ t) (tr_accum1 _ _ t)

set_option maxRecDepth 65536 in
theorem tr_loop (q0 q1 : FVec F S128x2048 .bf16) :
    Tr c B xk Xv (loopP B.kb B.vb B.mb B.ab B.s0 B.s1 B.c0 B.c1 q0 q1) (fun σ => loopF xk Xv q0 q1 σ 7) := by
  intro σ
  have hb : ∀ (k : Fin k0_t1_loop.trips) (u : PUnit), own c B xk Xv (loopF xk Xv q0 q1 σ k.val)
      ⊢ wpB c (trip B.kb B.vb B.mb B.ab B.s0 B.s1 B.c0 B.c1 q0 q1 k) (fun _ => own c B xk Xv (loopF xk Xv q0 q1 σ (k.val + 1))) := by
    intro k u
    rw [loopF]
    have h := tr_trip (c := c) (B := B) (xk := xk) (Xv := Xv) q0 q1 k
    generalize k.val = n at h ⊢
    unfold Tr at h
    have h2 := h (loopF xk Xv q0 q1 σ n)
    clear h
    with_reducible exact h2
  have h7 : k0_t1_loop.trips = 7 := by decide +kernel
  rw [← h7]
  unfold loopP wpB
  iintro H
  iapply (Scf.wp_for frame (wpE (defs₀ (F := F)) Variants.none (c : Thread nD τ) none) Set.univ k0_t1_loop.lb k0_t1_loop.ub k0_t1_loop.st k0_t1_ok PUnit.unit
    (fun k _ => trip B.kb B.vb B.mb B.ab B.s0 B.s1 B.c0 B.c1 q0 q1 k)
    (fun n _ => own c B xk Xv (loopF xk Xv q0 q1 σ n)) hb)
  isplitl [H]
  · iexact H
  · iintro %u H
    iexact H

end Cert.KernelIdeal.Attn

end
-- ==== Proof.Tiles.lean ====
/- A query tile's running maximum and sums are its own recursion over the blocks of keys: a job of another tile leaves
   them alone, and the two score buffers hold a block's scores from the job that writes them to the one that reads them. -/
module

public import proofs.«01_k».proof.Proof.Steps
public import Idealize.ShloMosaic.Lib.VecWindow

@[expose] public section

noncomputable section

namespace Cert.KernelIdeal.Attn

open Idealize.ShloMosaic Idealize.ShloMosaic.TcCoe
open Cert.KernelIdeal Cert.KernelIdeal.Gen

variable {F : FTy → Type} [FloatOps F]

/-! ## Rectangles apart -/

theorem rC_apart {c c' : Fin 2} {t t' : Fin 8} (h : (c, t) ≠ (c', t')) (x x') : (rC c t).emb x ≠ (rC c' t').emb x' := by
  intro he
  have h0 : c.val + 1 * (x 0).val = c'.val + 1 * (x' 0).val := congrArg (fun i => (i 0).val) he
  have h2 : 256 * t.val + 1 * (x 2).val = 256 * t'.val + 1 * (x' 2).val := congrArg (fun i => (i 2).val) he
  have b0 : (x 0).val < 1 := (x 0).isLt
  have b0' : (x' 0).val < 1 := (x' 0).isLt
  have b2 : (x 2).val < 256 := (x 2).isLt
  have b2' : (x' 2).val < 256 := (x' 2).isLt
  exact h (Prod.ext (Fin.ext (show c.val = c'.val by omega)) (Fin.ext (show t.val = t'.val by omega)))

theorem rS_apart {c c' : Fin 2} {t t' : Fin 8} (h : (c, t) ≠ (c', t')) (x x') : (rS c t).emb x ≠ (rS c' t').emb x' := by
  intro he
  have h0 : c.val + 1 * (x 0).val = c'.val + 1 * (x' 0).val := congrArg (fun i => (i 0).val) he
  have h2 : 256 * t.val + 1 * (x 2).val = 256 * t'.val + 1 * (x' 2).val := congrArg (fun i => (i 2).val) he
  have b0 : (x 0).val < 1 := (x 0).isLt
  have b0' : (x' 0).val < 1 := (x' 0).isLt
  have b2 : (x 2).val < 256 := (x 2).isLt
  have b2' : (x' 2).val < 256 := (x' 2).isLt
  exact h (Prod.ext (Fin.ext (show c.val = c'.val by omega)) (Fin.ext (show t.val = t'.val by omega)))

theorem rA_apart {c c' : Fin 2} {t t' : Fin 8} (h : (c, t) ≠ (c', t')) (x x') : (rA c t).emb x ≠ (rA c' t').emb x' := by
  intro he
  have h0 : c.val + 1 * (x 0).val = c'.val + 1 * (x' 0).val := congrArg (fun i => (i 0).val) he
  have h2 : 256 * t.val + 1 * (x 2).val = 256 * t'.val + 1 * (x' 2).val := congrArg (fun i => (i 2).val) he
  have b0 : (x 0).val < 1 := (x 0).isLt
  have b0' : (x' 0).val < 1 := (x' 0).isLt
  have b2 : (x 2).val < 256 := (x 2).isLt
  have b2' : (x' 2).val < 256 := (x' 2).isLt
  exact h (Prod.ext (Fin.ext (show c.val = c'.val by omega)) (Fin.ext (show t.val = t'.val by omega)))

theorem rdC_off {c c' : Fin 2} {t t' : Fin 8} (h : (c, t) ≠ (c', t')) (w) (X : XC F) : rd (rC c t) (upd (rC c' t') w X) = rd (rC c t) X :=
  rd_upd_off _ _ _ _ fun x x' => rC_apart (fun e => h e.symm) x' x
theorem rdS_off {c c' : Fin 2} {t t' : Fin 8} (h : (c, t) ≠ (c', t')) (w) (X : XS F) : rd (rS c t) (upd (rS c' t') w X) = rd (rS c t) X :=
  rd_upd_off _ _ _ _ fun x x' => rS_apart (fun e => h e.symm) x' x
theorem rdA_off {c c' : Fin 2} {t t' : Fin 8} (h : (c, t) ≠ (c', t')) (w) (X : XA F) : rd (rA c t) (upd (rA c' t') w X) = rd (rA c t) X :=
  rd_upd_off _ _ _ _ fun x x' => rA_apart (fun e => h e.symm) x' x

theorem ne_tile {c c' : Fin 2} {t t' : Fin 8} (h : t ≠ t') : (c, t) ≠ (c', t') := fun e => h (congrArg Prod.snd e)
theorem zero_ne_one' : (0 : Fin 2) ≠ 1 := by decide
theorem ne01 {t : Fin 8} : ((0 : Fin 2), t) ≠ ((1 : Fin 2), t) := fun e => zero_ne_one' (congrArg Prod.fst e)
theorem ne10 {t : Fin 8} : ((1 : Fin 2), t) ≠ ((0 : Fin 2), t) := fun e => zero_ne_one' (congrArg Prod.fst e).symm

/-! ## What a job leaves in a tile -/

theorem scS_at (kc : Vec F S512x128 .bf16) (q : Fin 2 → FVec F S128x2048 .bf16) (t : Fin 8) (X : XS F) (c : Fin 2) :
    rd (rS c t) (scS kc (q 0) (q 1) t X) = scPay kc (q c) t := by
  unfold scS
  match c with
  | 0 => rw [rdS_off ne01, rd_upd]
  | 1 => rw [rd_upd]
theorem scC_at (kc : Vec F S512x128 .bf16) (q : Fin 2 → FVec F S128x2048 .bf16) (t : Fin 8) (X : XC F) (c : Fin 2) :
    rd (rC c t) (scC kc (q 0) (q 1) t X) = cmPay kc (q c) t := by
  unfold scC
  match c with
  | 0 => rw [rdC_off ne01, rd_upd]
  | 1 => rw [rd_upd]
theorem scS_off (kc : Vec F S512x128 .bf16) (q0 q1 : FVec F S128x2048 .bf16) {t t' : Fin 8} (h : t' ≠ t) (X : XS F) (c : Fin 2) :
    rd (rS c t') (scS kc q0 q1 t X) = rd (rS c t') X := by
  unfold scS; rw [rdS_off (ne_tile h), rdS_off (ne_tile h)]
theorem scC_off (kc : Vec F S512x128 .bf16) (q0 q1 : FVec F S128x2048 .bf16) {t t' : Fin 8} (h : t' ≠ t) (X : XC F) (c : Fin 2) :
    rd (rC c t') (scC kc q0 q1 t X) = rd (rC c t') X := by
  unfold scC; rw [rdC_off (ne_tile h), rdC_off (ne_tile h)]

theorem acM_at (t : Fin 8) (Xc Xm : XC F) (c : Fin 2) : rd (rC c t) (acM 1 t Xc (acM 0 t Xc Xm)) = mPay (rd (rC c t) Xm) (rd (rC c t) Xc) := by
  unfold acM
  match c with
  | 0 => rw [rdC_off ne01, rd_upd]
  | 1 => rw [rd_upd, rdC_off ne10]
theorem acM_off {t t' : Fin 8} (h : t' ≠ t) (Xc Xm : XC F) (c : Fin 2) : rd (rC c t') (acM 1 t Xc (acM 0 t Xc Xm)) = rd (rC c t') Xm := by
  unfold acM; rw [rdC_off (ne_tile h), rdC_off (ne_tile h)]
theorem acA_at (t : Fin 8) (vt : Vec F S1x144x512 .bf16) (Xs : XS F) (Xc Xm : XC F) (Xa : XA F) (c : Fin 2) :
    rd (rA c t) (acA 1 t vt Xs Xc (acM 0 t Xc Xm) (acA 0 t vt Xs Xc Xm Xa)) = accPay vt (rd (rC c t) Xm) (rd (rC c t) Xc) (rd (rS c t) Xs) (rd (rA c t) Xa) := by
  unfold acA acM
  match c with
  | 0 => rw [rdA_off ne01, rd_upd]
  | 1 => rw [rd_upd, rdC_off ne10, rdA_off ne10]
theorem acA_off {t t' : Fin 8} (h : t' ≠ t) (vt : Vec F S1x144x512 .bf16) (Xs : XS F) (Xc Xm Xm' : XC F) (Xa : XA F) (c : Fin 2) :
    rd (rA c t') (acA 1 t vt Xs Xc Xm' (acA 0 t vt Xs Xc Xm Xa)) = rd (rA c t') Xa := by
  unfold acA; rw [rdA_off (ne_tile h), rdA_off (ne_tile h)]

/-! ## A tile's recursion -/

variable (xk : XK F) (V : ℕ → Vec F S1x144x512 .bf16) (q : Fin 2 → FVec F S128x2048 .bf16)

/-- The running maximum of component `c`, tile `t`, after the first `n` blocks, -/
def Mv (c : Fin 2) (t : Fin 8) : ℕ → Vec F S1x1x256 .f32
  | 0 => rd (s := S2x1x2048) (rC c t) (m0Pay (F := F))
  | n + 1 => mPay (Mv c t n) (cmPay (kBlk xk n) (q c) t)

/-- and the running sums. -/
def Av (c : Fin 2) (t : Fin 8) : ℕ → Vec F S1x144x256 .f32
  | 0 => rd (s := S2x144x2048) (rA c t) (a0Pay (F := F))
  | n + 1 => accPay (V n) (Mv xk q c t n) (cmPay (kBlk xk n) (q c) t) (scPay (kBlk xk n) (q c) t) (Av c t n)

/-- Tile `t` has accumulated `n` blocks. -/
def AccAt (n : ℕ) (t : Fin 8) (σ : St F) : Prop := ∀ c, rd (rC c t) σ.m = Mv xk q c t n ∧ rd (rA c t) σ.a = Av xk V q c t n
/-- The first buffer holds tile `t`'s scores of block `n`; -/
def Sc0At (n : ℕ) (t : Fin 8) (σ : St F) : Prop := ∀ c, rd (rS c t) σ.s0 = scPay (kBlk xk n) (q c) t ∧ rd (rC c t) σ.c0 = cmPay (kBlk xk n) (q c) t
/-- so does the second. -/
def Sc1At (n : ℕ) (t : Fin 8) (σ : St F) : Prop := ∀ c, rd (rS c t) σ.s1 = scPay (kBlk xk n) (q c) t ∧ rd (rC c t) σ.c1 = cmPay (kBlk xk n) (q c) t

/-- Every tile in turn taken from `P` to `Q`, by jobs that leave the other tiles alone. -/
theorem tilesF_inv (P Q : Fin 8 → St F → Prop) (f : Fin 8 → St F → St F) (h1 : ∀ t σ, P t σ → Q t (f t σ))
    (hP : ∀ t t' σ, t' ≠ t → P t' σ → P t' (f t σ)) (hQ : ∀ t t' σ, t' ≠ t → Q t' σ → Q t' (f t σ)) (σ : St F) (h : ∀ t, P t σ) :
    ∀ t, Q t (tilesF f σ) := by
  intro t
  unfold tilesF
  match t with
  | 0 => exact hQ _ _ _ (by decide) (hQ _ _ _ (by decide) (hQ _ _ _ (by decide) (hQ _ _ _ (by decide) (hQ _ _ _ (by decide) (hQ _ _ _ (by decide) (hQ _ _ _ (by decide) (h1 _ _ (h _))))))))
  | 1 => exact hQ _ _ _ (by decide) (hQ _ _ _ (by decide) (hQ _ _ _ (by decide) (hQ _ _ _ (by decide) (hQ _ _ _ (by decide) (hQ _ _ _ (by decide) (h1 _ _ (hP _ _ _ (by decide) (h _))))))))
  | 2 => exact hQ _ _ _ (by decide) (hQ _ _ _ (by decide) (hQ _ _ _ (by decide) (hQ _ _ _ (by decide) (hQ _ _ _ (by decide) (h1 _ _ (hP _ _ _ (by decide) (hP _ _ _ (by decide) (h _))))))))
  | 3 => exact hQ _ _ _ (by decide) (hQ _ _ _ (by decide) (hQ _ _ _ (by decide) (hQ _ _ _ (by decide) (h1 _ _ (hP _ _ _ (by decide) (hP _ _ _ (by decide) (hP _ _ _ (by decide) (h _))))))))
  | 4 => exact hQ _ _ _ (by decide) (hQ _ _ _ (by decide) (hQ _ _ _ (by decide) (h1 _ _ (hP _ _ _ (by decide) (hP _ _ _ (by decide) (hP _ _ _ (by decide) (hP _ _ _ (by decide) (h _))))))))
  | 5 => exact hQ _ _ _ (by decide) (hQ _ _ _ (by decide) (h1 _ _ (hP _ _ _ (by decide) (hP _ _ _ (by decide) (hP _ _ _ (by decide) (hP _ _ _ (by decide) (hP _ _ _ (by decide) (h _))))))))
  | 6 => exact hQ _ _ _ (by decide) (h1 _ _ (hP _ _ _ (by decide) (hP _ _ _ (by decide) (hP _ _ _ (by decide) (hP _ _ _ (by decide) (hP _ _ _ (by decide) (hP _ _ _ (by decide) (h _))))))))
  | 7 => exact h1 _ _ (hP _ _ _ (by decide) (hP _ _ _ (by decide) (hP _ _ _ (by decide) (hP _ _ _ (by decide) (hP _ _ _ (by decide) (hP _ _ _ (by decide) (hP _ _ _ (by decide) (h _))))))))

section Jobs
variable {xk V q}

theorem AccAt.congr {n : ℕ} {t : Fin 8} {σ σ' : St F} (h : AccAt xk V q n t σ) (hm : σ'.m = σ.m) (ha : σ'.a = σ.a) : AccAt xk V q n t σ' :=
  fun c => ⟨(congrArg (rd (rC c t)) hm).trans (h c).1, (congrArg (rd (rA c t)) ha).trans (h c).2⟩
theorem Sc0At.congr {n : ℕ} {t : Fin 8} {σ σ' : St F} (h : Sc0At xk q n t σ) (hs : σ'.s0 = σ.s0) (hc : σ'.c0 = σ.c0) : Sc0At xk q n t σ' :=
  fun c => ⟨(congrArg (rd (rS c t)) hs).trans (h c).1, (congrArg (rd (rC c t)) hc).trans (h c).2⟩
theorem Sc1At.congr {n : ℕ} {t : Fin 8} {σ σ' : St F} (h : Sc1At xk q n t σ) (hs : σ'.s1 = σ.s1) (hc : σ'.c1 = σ.c1) : Sc1At xk q n t σ' :=
  fun c => ⟨(congrArg (rd (rS c t)) hs).trans (h c).1, (congrArg (rd (rC c t)) hc).trans (h c).2⟩

theorem acc_score0 {n : ℕ} {t t' : Fin 8} {σ : St F} (kc : Vec F S512x128 .bf16) (h : AccAt xk V q n t' σ) : AccAt xk V q n t' (St.score0 kc (q 0) (q 1) t σ) := h.congr (by unfold St.score0; rfl) (by unfold St.score0; rfl)
theorem acc_score1 {n : ℕ} {t t' : Fin 8} {σ : St F} (kc : Vec F S512x128 .bf16) (h : AccAt xk V q n t' σ) : AccAt xk V q n t' (St.score1 kc (q 0) (q 1) t σ) := h.congr (by unfold St.score1; rfl) (by unfold St.score1; rfl)
theorem sc0_score1 {n : ℕ} {t t' : Fin 8} {σ : St F} (kc : Vec F S512x128 .bf16) (h : Sc0At xk q n t' σ) : Sc0At xk q n t' (St.score1 kc (q 0) (q 1) t σ) := h.congr (by unfold St.score1; rfl) (by unfold St.score1; rfl)
theorem sc1_score0 {n : ℕ} {t t' : Fin 8} {σ : St F} (kc : Vec F S512x128 .bf16) (h : Sc1At xk q n t' σ) : Sc1At xk q n t' (St.score0 kc (q 0) (q 1) t σ) := h.congr (by unfold St.score0; rfl) (by unfold St.score0; rfl)
theorem sc0_accum1 {n : ℕ} {t t' : Fin 8} {σ : St F} (vt : Vec F S1x144x512 .bf16) (h : Sc0At xk q n t' σ) : Sc0At xk q n t' (St.accum1 vt t σ) := h.congr (by unfold St.accum1; rfl) (by unfold St.accum1; rfl)
theorem sc1_accum0 {n : ℕ} {t t' : Fin 8} {σ : St F} (vt : Vec F S1x144x512 .bf16) (h : Sc1At xk q n t' σ) : Sc1At xk q n t' (St.accum0 vt t σ) := h.congr (by unfold St.accum0; rfl) (by unfold St.accum0; rfl)
theorem sc0_accum0 {n : ℕ} {t t' : Fin 8} {σ : St F} (vt : Vec F S1x144x512 .bf16) (h : Sc0At xk q n t' σ) : Sc0At xk q n t' (St.accum0 vt t σ) := h.congr (by unfold St.accum0; rfl) (by unfold St.accum0; rfl)
theorem sc1_accum1 {n : ℕ} {t t' : Fin 8} {σ : St F} (vt : Vec F S1x144x512 .bf16) (h : Sc1At xk q n t' σ) : Sc1At xk q n t' (St.accum1 vt t σ) := h.congr (by unfold St.accum1; rfl) (by unfold St.accum1; rfl)
theorem score0_s0 (kc : Vec F S512x128 .bf16) (q0 q1 : FVec F S128x2048 .bf16) (t : Fin 8) (σ : St F) : (St.score0 kc q0 q1 t σ).s0 = scS kc q0 q1 t σ.s0 := by dsimp only [St.score0]
theorem score0_c0 (kc : Vec F S512x128 .bf16) (q0 q1 : FVec F S128x2048 .bf16) (t : Fin 8) (σ : St F) : (St.score0 kc q0 q1 t σ).c0 = scC kc q0 q1 t σ.c0 := by dsimp only [St.score0]
theorem score1_s1 (kc : Vec F S512x128 .bf16) (q0 q1 : FVec F S128x2048 .bf16) (t : Fin 8) (σ : St F) : (St.score1 kc q0 q1 t σ).s1 = scS kc q0 q1 t σ.s1 := by dsimp only [St.score1]
theorem score1_c1 (kc : Vec F S512x128 .bf16) (q0 q1 : FVec F S128x2048 .bf16) (t : Fin 8) (σ : St F) : (St.score1 kc q0 q1 t σ).c1 = scC kc q0 q1 t σ.c1 := by dsimp only [St.score1]
theorem accum0_m (vt : Vec F S1x144x512 .bf16) (t : Fin 8) (σ : St F) : (St.accum0 vt t σ).m = acM 1 t σ.c0 (acM 0 t σ.c0 σ.m) := by dsimp only [St.accum0]
theorem accum0_a (vt : Vec F S1x144x512 .bf16) (t : Fin 8) (σ : St F) :
    (St.accum0 vt t σ).a = acA 1 t vt σ.s0 σ.c0 (acM 0 t σ.c0 σ.m) (acA 0 t vt σ.s0 σ.c0 σ.m σ.a) := by dsimp only [St.accum0]
theorem accum1_m (vt : Vec F S1x144x512 .bf16) (t : Fin 8) (σ : St F) : (St.accum1 vt t σ).m = acM 1 t σ.c1 (acM 0 t σ.c1 σ.m) := by dsimp only [St.accum1]
theorem accum1_a (vt : Vec F S1x144x512 .bf16) (t : Fin 8) (σ : St F) :
    (St.accum1 vt t σ).a = acA 1 t vt σ.s1 σ.c1 (acM 0 t σ.c1 σ.m) (acA 0 t vt σ.s1 σ.c1 σ.m σ.a) := by dsimp only [St.accum1]

theorem sc0_at (n : ℕ) (t : Fin 8) (σ : St F) : Sc0At xk q n t (St.score0 (kBlk xk n) (q 0) (q 1) t σ) := fun c => by
  rw [score0_s0, score0_c0, scS_at, scC_at]; exact ⟨rfl, rfl⟩
theorem sc1_at (n : ℕ) (t : Fin 8) (σ : St F) : Sc1At xk q n t (St.score1 (kBlk xk n) (q 0) (q 1) t σ) := fun c => by
  rw [score1_s1, score1_c1, scS_at, scC_at]; exact ⟨rfl, rfl⟩
theorem sc0_off {n : ℕ} {t t' : Fin 8} {σ : St F} (kc : Vec F S512x128 .bf16) (ht : t' ≠ t) (h : Sc0At xk q n t' σ) : Sc0At xk q n t' (St.score0 kc (q 0) (q 1) t σ) := fun c => by
  rw [score0_s0, score0_c0, scS_off _ _ _ ht, scC_off _ _ _ ht]; exact h c
theorem sc1_off {n : ℕ} {t t' : Fin 8} {σ : St F} (kc : Vec F S512x128 .bf16) (ht : t' ≠ t) (h : Sc1At xk q n t' σ) : Sc1At xk q n t' (St.score1 kc (q 0) (q 1) t σ) := fun c => by
  rw [score1_s1, score1_c1, scS_off _ _ _ ht, scC_off _ _ _ ht]; exact h c

theorem Mv_succ (c : Fin 2) (t : Fin 8) (n : ℕ) : Mv xk q c t (n + 1) = mPay (Mv xk q c t n) (cmPay (kBlk xk n) (q c) t) := by rw [Mv]
theorem Av_succ (c : Fin 2) (t : Fin 8) (n : ℕ) : Av xk V q c t (n + 1)
    = accPay (V n) (Mv xk q c t n) (cmPay (kBlk xk n) (q c) t) (scPay (kBlk xk n) (q c) t) (Av xk V q c t n) := by rw [Av]

theorem acc0_at {n : ℕ} {t : Fin 8} {σ : St F} (h : AccAt xk V q n t σ) (hs : Sc0At xk q n t σ) : AccAt xk V q (n + 1) t (St.accum0 (V n) t σ) := fun c => by
  rw [accum0_m, accum0_a, acM_at, acA_at, (h c).1, (hs c).2, (hs c).1, (h c).2, Mv_succ, Av_succ]; exact ⟨rfl, rfl⟩
theorem acc1_at {n : ℕ} {t : Fin 8} {σ : St F} (h : AccAt xk V q n t σ) (hs : Sc1At xk q n t σ) : AccAt xk V q (n + 1) t (St.accum1 (V n) t σ) := fun c => by
  rw [accum1_m, accum1_a, acM_at, acA_at, (h c).1, (hs c).2, (hs c).1, (h c).2, Mv_succ, Av_succ]; exact ⟨rfl, rfl⟩
theorem acc0_off {n : ℕ} {t t' : Fin 8} {σ : St F} (vt : Vec F S1x144x512 .bf16) (ht : t' ≠ t) (h : AccAt xk V q n t' σ) : AccAt xk V q n t' (St.accum0 vt t σ) := fun c => by
  rw [accum0_m, accum0_a, acM_off ht, acA_off ht]; exact h c
theorem acc1_off {n : ℕ} {t t' : Fin 8} {σ : St F} (vt : Vec F S1x144x512 .bf16) (ht : t' ≠ t) (h : AccAt xk V q n t' σ) : AccAt xk V q n t' (St.accum1 vt t σ) := fun c => by
  rw [accum1_m, accum1_a, acM_off ht, acA_off ht]; exact h c

end Jobs

variable (Xv : XV F)

theorem step0_inv (n : ℕ) (σ : St F) (h : ∀ t, AccAt xk (vBlk Xv) q n t σ ∧ Sc0At xk q n t σ) :
    ∀ t, AccAt xk (vBlk Xv) q (n + 1) t (step0 xk Xv (q 0) (q 1) n σ) ∧ Sc1At xk q (n + 1) t (step0 xk Xv (q 0) (q 1) n σ) :=
  tilesF_inv (fun t σ => AccAt xk (vBlk Xv) q n t σ ∧ Sc0At xk q n t σ) (fun t σ => AccAt xk (vBlk Xv) q (n + 1) t σ ∧ Sc1At xk q (n + 1) t σ) _
    (fun t σ h => ⟨acc0_at (V := vBlk Xv) (acc_score1 _ h.1) (sc0_score1 _ h.2), sc1_accum0 _ (sc1_at (n + 1) t σ)⟩)
    (fun t t' σ ht h => ⟨acc0_off _ ht (acc_score1 _ h.1), sc0_accum0 _ (sc0_score1 _ h.2)⟩)
    (fun t t' σ ht h => ⟨acc0_off _ ht (acc_score1 _ h.1), sc1_accum0 _ (sc1_off _ ht h.2)⟩) σ h

theorem step1_inv (n : ℕ) (σ : St F) (h : ∀ t, AccAt xk (vBlk Xv) q n t σ ∧ Sc1At xk q n t σ) :
    ∀ t, AccAt xk (vBlk Xv) q (n + 1) t (step1 xk Xv (q 0) (q 1) n σ) ∧ Sc0At xk q (n + 1) t (step1 xk Xv (q 0) (q 1) n σ) :=
  tilesF_inv (fun t σ => AccAt xk (vBlk Xv) q n t σ ∧ Sc1At xk q n t σ) (fun t σ => AccAt xk (vBlk Xv) q (n + 1) t σ ∧ Sc0At xk q (n + 1) t σ) _
    (fun t σ h => ⟨acc1_at (V := vBlk Xv) (acc_score0 _ h.1) (sc1_score0 _ h.2), sc0_accum1 _ (sc0_at (n + 1) t σ)⟩)
    (fun t t' σ ht h => ⟨acc1_off _ ht (acc_score0 _ h.1), sc1_accum1 _ (sc1_score0 _ h.2)⟩)
    (fun t t' σ ht h => ⟨acc1_off _ ht (acc_score0 _ h.1), sc0_accum1 _ (sc0_off _ ht h.2)⟩) σ h

theorem loopF_inv (σ : St F) (h : ∀ t, AccAt xk (vBlk Xv) q 0 t σ ∧ Sc0At xk q 0 t σ) (n : ℕ) :
    ∀ t, AccAt xk (vBlk Xv) q (2 * n) t (loopF xk Xv (q 0) (q 1) σ n) ∧ Sc0At xk q (2 * n) t (loopF xk Xv (q 0) (q 1) σ n) := by
  induction n with
  | zero => exact h
  | succ n ih => exact step1_inv xk q Xv (2 * n + 1) _ (step0_inv xk q Xv (2 * n) _ ih)

/-! ## The whole body's scratch -/

abbrev rMw : Rect S2x1x2048 := Rect.unit (s := S2x1x2048) ![0, 0, 0] S2x1x2048.size inb_S2x1x2048_S2x1x2048_0_0_0
abbrev rAw : Rect S2x144x2048 := Rect.unit (s := S2x144x2048) ![0, 0, 0] S2x144x2048.size inb_S2x144x2048_S2x144x2048_0_0_0

theorem upd_full {s : Shape} {U : Type} {off : Fin s.rank → ℕ} (inb : ∀ a, off a + s.size a ≤ s.size a) (w : s.Idx → U) (X : s.Idx → U) :
    upd (Rect.unit off s.size inb) w X = w := by
  funext y
  have h := upd_emb (Rect.unit off s.size inb) w X y
  rwa [Rect.emb_unit_full inb y] at h

theorem rd_full {s : Shape} {U : Type} {off : Fin s.rank → ℕ} (inb : ∀ a, off a + s.size a ≤ s.size a) (X : s.Idx → U) :
    rd (Rect.unit off s.size inb) X = X := by
  funext y
  exact congrArg X (Rect.emb_unit_full inb y)

/-- The maxima and sums reset. -/
def resetF (σ : St F) : St F := { σ with m := upd rMw m0Pay σ.m, a := upd rAw a0Pay σ.a }

/-- The scratch after every block. -/
def finF (xk : XK F) (Xv : XV F) (q0 q1 : FVec F S128x2048 .bf16) (σ : St F) : St F :=
  tilesF (fun t => St.accum1 (vBlk Xv 15) t) (step0 xk Xv q0 q1 14 (loopF xk Xv q0 q1 (tilesF (fun t => St.score0 (kBlk xk 0) q0 q1 t) (resetF σ)) 7))

theorem finF_at (σ : St F) (c : Fin 2) (t : Fin 8) : rd (rA c t) (finF xk Xv (q 0) (q 1) σ).a = Av xk (vBlk Xv) q c t 16 := by
  have h0 : ∀ t, AccAt xk (vBlk Xv) q 0 t (resetF σ) := fun t c => by
    unfold resetF
    refine ⟨?_, ?_⟩
    · show rd (rC c t) (upd rMw m0Pay σ.m) = _
      rw [upd_full]; rfl
    · show rd (rA c t) (upd rAw a0Pay σ.a) = _
      rw [upd_full]; rfl
  have h1 := tilesF_inv (fun t σ => AccAt xk (vBlk Xv) q 0 t σ) (fun t σ => AccAt xk (vBlk Xv) q 0 t σ ∧ Sc0At xk q 0 t σ)
    (fun t => St.score0 (kBlk xk 0) (q 0) (q 1) t) (fun t σ h => ⟨acc_score0 _ h, sc0_at 0 t σ⟩) (fun t t' σ ht h => acc_score0 _ h)
    (fun t t' σ ht h => ⟨acc_score0 _ h.1, sc0_off _ ht h.2⟩) (resetF σ) h0
  have h2 := step0_inv xk q Xv 14 _ (loopF_inv xk q Xv _ h1 7)
  have h3 := tilesF_inv (fun t σ => AccAt xk (vBlk Xv) q 15 t σ ∧ Sc1At xk q 15 t σ) (fun t σ => AccAt xk (vBlk Xv) q 16 t σ)
    (fun t => St.accum1 (vBlk Xv 15) t) (fun t σ h => acc1_at (V := vBlk Xv) h.1 h.2) (fun t t' σ ht h => ⟨acc1_off _ ht h.1, sc1_accum1 _ h.2⟩)
    (fun t t' σ ht h => acc1_off _ ht h) _ h2
  exact (h3 t c).2

end Cert.KernelIdeal.Attn

end
-- ==== Proof.Body.lean ====
/- One grid point: the values transposed where the batch and head are new, then every block of keys, then the output block
   as a function of the blocks of queries, keys and values alone. -/
module

public import proofs.«01_k».proof.Proof.Tiles
public import Idealize.ShloMosaic.Lib.ValueIdxCore

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F]

local notation "𝕄" => MT nD τ sig Unit (Elt F) ℕ (UR sig nD τ) ℕ

/-! ## The transposed values -/

/-- The scratch after block `j` of the values is transposed into it. -/
def fillF (xv : XK F) (X : XV F) (j : Fin 16) : XV F := upd (rV1 j) onesPay (upd (rV0 j) (vtPay (rd (rK j) xv)) X)

/-- Block `j` of the scratch is block `j` of the values, transposed, over rows of ones. -/
def IsVtAt (xv : XK F) (j : Fin 16) (X : XV F) : Prop := rd (rV0 j) X = vtPay (rd (rK j) xv) ∧ rd (rV1 j) X = onesPay
/-- Every block is. -/
def IsVt (xv : XK F) (X : XV F) : Prop := ∀ j, IsVtAt xv j X

theorem rV01_apart (j j' : Fin 16) (x x') : (rV0 j).emb x ≠ (rV1 j').emb x' := by
  intro he
  have h1 : 0 + 1 * (x 1).val = 128 + 1 * (x' 1).val := congrArg (fun i => (i 1).val) he
  have b1 : (x 1).val < 128 := (x 1).isLt
  omega
theorem rV0_apart {j j' : Fin 16} (h : j ≠ j') (x x') : (rV0 j).emb x ≠ (rV0 j').emb x' := by
  intro he
  have h0 : j.val + 1 * (x 0).val = j'.val + 1 * (x' 0).val := congrArg (fun i => (i 0).val) he
  have b0 : (x 0).val < 1 := (x 0).isLt
  have b0' : (x' 0).val < 1 := (x' 0).isLt
  exact h (Fin.ext (by omega))
theorem rV1_apart {j j' : Fin 16} (h : j ≠ j') (x x') : (rV1 j).emb x ≠ (rV1 j').emb x' := by
  intro he
  have h0 : j.val + 1 * (x 0).val = j'.val + 1 * (x' 0).val := congrArg (fun i => (i 0).val) he
  have b0 : (x 0).val < 1 := (x 0).isLt
  have b0' : (x' 0).val < 1 := (x' 0).isLt
  exact h (Fin.ext (by omega))

theorem fillF_at (xv : XK F) (X : XV F) (j : Fin 16) : IsVtAt xv j (fillF xv X j) := by
  unfold IsVtAt fillF
  rw [rd_upd, rd_upd_off _ _ _ _ fun x x' e => rV01_apart j j x x' e.symm, rd_upd]
  exact ⟨rfl, rfl⟩

theorem fillF_off (xv : XK F) (X : XV F) {i j : Fin 16} (h : i ≠ j) (hX : IsVtAt xv j X) : IsVtAt xv j (fillF xv X i) := by
  unfold IsVtAt fillF at *
  rw [rd_upd_off _ _ _ _ fun x x' e => rV01_apart j i x x' e.symm, rd_upd_off _ _ _ _ fun x x' e => rV0_apart h x' x e,
    rd_upd_off _ _ _ _ fun x x' e => rV1_apart h x' x e, rd_upd_off _ _ _ _ fun x x' e => rV01_apart i j x' x e]
  exact hX

/-- A fold of steps, each of which establishes its own fact and keeps the others'. -/
theorem foldl_all {α ι : Type} [DecidableEq ι] (g : α → ι → α) (P : ι → α → Prop) (h1 : ∀ i X, P i (g X i)) (h2 : ∀ i j X, i ≠ j → P j X → P j (g X i)) :
    ∀ (l : List ι) (X : α) (j : ι), (j ∈ l ∨ P j X) → P j (l.foldl g X)
  | [], X, j, h => h.resolve_left List.not_mem_nil
  | i :: l, X, j, h => by
    refine foldl_all g P h1 h2 l (g X i) j ?_
    by_cases e : i = j
    · exact .inr (e ▸ h1 i X)
    · rcases h with h | h
      · exact .inl ((List.mem_cons.mp h).resolve_left fun e' => e e'.symm)
      · exact .inr (h2 i j X e h)

/-- The blocks in the order the kernel transposes them. -/
abbrev blocks : List (Fin 16) := [0, 1, 2, 3, 4, 5, 6, 7, 8, 9, 10, 11, 12, 13, 14, 15]

theorem fills_vt (xv : XK F) (X : XV F) : IsVt xv (blocks.foldl (fillF xv) X) :=
  fun j => foldl_all (fillF xv) (IsVtAt xv) (fun i X => fillF_at xv X i) (fun i j X => fillF_off xv X) blocks X j (.inl ((by decide : ∀ j : Fin 16, j ∈ blocks) j))

variable (c : Dev nD)

theorem wp_fill (xb : Memref sig .tc .vmem S8192x128 .bf16) (vb : Memref sig .tc .vmem S16x144x512 .bf16) (hv : vb.IsWhole) (j : Fin 16)
    (xv : XK F) (X : XV F) :
    iprop(owns (c : Thread nD τ) xb fullShare xv ∗ owns (c : Thread nD τ) vb fullShare X)
      ⊢ wpB c (fill xb vb hv j) (fun _ => iprop(owns (c : Thread nD τ) xb fullShare xv ∗ owns (c : Thread nD τ) vb fullShare (fillF xv X j))) := by
  rw [← Prog.bind_pure (fill xb vb hv j)]
  unfold fill fillF
  simp only [Prog.bind_assoc]
  iintro ⟨Hx, Hv⟩
  iapply (wp_load_owns c xb (rK j)) $$ Hx; iintro Hx
  iapply (wp_load_owns c vb (rV0 j)) $$ Hv; iintro Hv
  iapply (wp_store_owns c vb (rV0 j)) $$ Hv; iintro Hv
  iapply (wp_load_owns c vb (rV1 j)) $$ Hv; iintro Hv
  iapply (wp_store_owns c vb (rV1 j)) $$ Hv; iintro Hv
  iapply (le_wp_ret frame (wpE (defs₀ (F := F)) Variants.none (c : Thread nD τ) none) Set.univ PUnit.unit)
  isplitl [Hx] <;> iassumption

/-- The two buffers the transposing touches. -/
def ownV (xb : Memref sig .tc .vmem S8192x128 .bf16) (vb : Memref sig .tc .vmem S16x144x512 .bf16) (xv : XK F) (X : XV F) : sProp 𝕄 :=
  iprop(owns (c : Thread nD τ) xb fullShare xv ∗ owns (c : Thread nD τ) vb fullShare X)

theorem seqV {xb : Memref sig .tc .vmem S8192x128 .bf16} {vb : Memref sig .tc .vmem S16x144x512 .bf16} {xv : XK F}
    {p p' : Prog (TpuEff nD τ sig (Elt F) Λ₀ .tc) PUnit} {g g' : XV F → XV F}
    (h : ∀ X, ownV c xb vb xv X ⊢ wpB c p (fun _ => ownV c xb vb xv (g X)))
    (h' : ∀ X, ownV c xb vb xv X ⊢ wpB c p' (fun _ => ownV c xb vb xv (g' X))) :
    ∀ X, ownV c xb vb xv X ⊢ wpB c (p >>= fun _ => p') (fun _ => ownV c xb vb xv (g' (g X))) := by
  intro X
  unfold wpB
  rw [wp_bind]
  exact (h X).trans (wp_mono _ _ _ fun _ => h' (g X))

theorem wp_fills (xb : Memref sig .tc .vmem S8192x128 .bf16) (vb : Memref sig .tc .vmem S16x144x512 .bf16) (hv : vb.IsWhole) (xv : XK F) (X : XV F) :
    ownV c xb vb xv X ⊢ wpB c (fills fun j => fill xb vb hv j) (fun _ => ownV c xb vb xv (blocks.foldl (fillF xv) X)) := by
  have h : ∀ j X, ownV c xb vb xv X ⊢ wpB c (fill xb vb hv j) (fun _ => ownV c xb vb xv (fillF xv X j)) := fun j X => wp_fill c xb vb hv j xv X
  have hs := seqV c (h 0) (seqV c (h 1) (seqV c (h 2) (seqV c (h 3) (seqV c (h 4) (seqV c (h 5) (seqV c (h 6) (seqV c (h 7)
    (seqV c (h 8) (seqV c (h 9) (seqV c (h 10) (seqV c (h 11) (seqV c (h 12) (seqV c (h 13) (seqV c (h 14) (h 15)))))))))))))))
  exact hs X

/-! ## The values a point's output is made of -/

/-- Block `j` of the values, transposed, rows of ones under it. -/
def vtBlk (xv : XK F) (j : Fin 16) : Vec F S1x144x512 .bf16 := fun y =>
  if h : (y 1).val < 128 then vtPay (rd (rK j) xv) (ix3 0 ⟨(y 1).val, h⟩ (y 2))
  else onesPay (F := F) (ix3 0 ⟨(y 1).val - 128, have : (y 1).val < 144 := (y 1).isLt; by omega⟩ (y 2))

/-- The same by the block's number. -/
def vtN (xv : XK F) (n : ℕ) : Vec F S1x144x512 .bf16 := vtBlk xv ⟨n % 16, Nat.mod_lt _ (by decide)⟩

theorem vBlk_eq {xv : XK F} {X : XV F} (h : IsVt xv X) : vBlk X = vtN xv := by
  funext n y
  unfold vBlk vtN vtBlk
  have hj := h ⟨n % 16, Nat.mod_lt _ (by decide)⟩
  generalize (⟨n % 16, Nat.mod_lt _ (by decide)⟩ : Fin 16) = j at hj ⊢
  have b0 : (y 0).val < 1 := (y 0).isLt
  split
  · rename_i hy
    rw [← hj.1]
    refine congrArg X (funext fun a => Fin.ext ?_)
    match a with
    | 0 => show j.val + 1 * (y 0).val = j.val + 1 * 0; omega
    | 1 => rfl
    | 2 => rfl
  · rename_i hy
    rw [← hj.2]
    refine congrArg X (funext fun a => Fin.ext ?_)
    match a with
    | 0 => show j.val + 1 * (y 0).val = j.val + 1 * 0; omega
    | 1 => show 0 + 1 * (y 1).val = 128 + 1 * ((y 1).val - 128); omega
    | 2 => rfl

/-- The queries of the two components. -/
def qP (xq : Vec F S2048x128 .bf16) : Fin 2 → FVec F S128x2048 .bf16
  | 0 => q0Pay xq
  | 1 => q1Pay xq

/-- Component `c`'s sums over every block of keys. -/
def accFull (xk : XK F) (V : ℕ → Vec F S1x144x512 .bf16) (q : Fin 2 → FVec F S128x2048 .bf16) (c : Fin 2) : Vec F S1x144x2048 .f32 := fun y =>
  Av xk V q c ⟨(y 2).val / 256, have : (y 2).val < 2048 := (y 2).isLt; by omega⟩ 16 (ix3 0 (y 1) ⟨(y 2).val % 256, Nat.mod_lt _ (by decide)⟩)

/-- The output block from the blocks of queries, keys and values. -/
def outBlk (xq : Vec F S2048x128 .bf16) (xk xv : XK F) (xl : Vec F S4x64 .f32) (xg : Vec F S128x1 .f32) : FVec F S2048x128 .bf16 :=
  outPay xl (accFull xk (vtN xv) (qP xq) 0) (accFull xk (vtN xv) (qP xq) 1) xg

theorem rd_acc (off : Fin 3 → ℕ) (ho : ∀ a, off a + S1x144x2048.size a ≤ S2x144x2048.size a) (cc : Fin 2) (hoff : off = ![cc.val, 0, 0])
    (xk : XK F) (V : ℕ → Vec F S1x144x512 .bf16) (q : Fin 2 → FVec F S128x2048 .bf16) (X : XA F) (h : ∀ t, rd (rA cc t) X = Av xk V q cc t 16) :
    rd (Rect.unit (s := S2x144x2048) off S1x144x2048.size ho) X = accFull xk V q cc := by
  subst hoff
  funext y
  unfold accFull
  have b0 : (y 0).val < 1 := (y 0).isLt
  rw [← h]
  refine congrArg X (funext fun a => Fin.ext ?_)
  match a with
  | 0 => show cc.val + 1 * (y 0).val = cc.val + 1 * 0; omega
  | 1 => rfl
  | 2 => show 0 + 1 * (y 2).val = 256 * ((y 2).val / 256) + 1 * ((y 2).val % 256); omega

/-! ## The blocks of keys, then the output -/

variable (B : Bufs) (xk xv : XK F) (Xv : XV F)

theorem tr_tail0 (q0 q1 : FVec F S128x2048 .bf16) : Tr c B xk Xv (tiles fun t => do
    score B.kb B.s1 B.c1 q0 q1 ![512 * (15 : Fin 16).val, 0] (inbK 15) t
    accum B.vb B.mb B.ab B.s0 B.c0 ![(14 : Fin 16).val, 0, 0] (inbV 14) t) (step0 xk Xv q0 q1 14) := by
  refine Tr.tiles fun t => ?_
  rw [← rd_rKo _ (inbK 15) 15 rfl, ← rd_rVo _ (inbV 14) 14 rfl]
  exact Tr.seq (tr_score1 q0 q1 _ _ t) (tr_accum0 _ _ t)

theorem tr_tail1 : Tr c B xk Xv (tiles fun t => accum B.vb B.mb B.ab B.s1 B.c1 ![(15 : Fin 16).val, 0, 0] (inbV 15) t)
    (tilesF fun t => St.accum1 (vBlk Xv 15) t) := by
  refine Tr.tiles fun t => ?_
  rw [← rd_rVo _ (inbV 15) 15 rfl]
  exact tr_accum1 _ _ t

theorem tr_head (q0 q1 : FVec F S128x2048 .bf16) : Tr c B xk Xv (tiles fun t => score B.kb B.s0 B.c0 q0 q1 ![512 * (0 : Fin 16).val, 0] (inbK 0) t)
    (tilesF fun t => St.score0 (kBlk xk 0) q0 q1 t) := by
  refine Tr.tiles fun t => ?_
  rw [← rd_rKo _ (inbK 0) 0 rfl]
  exact tr_score0 q0 q1 _ _ t

/-- The output block from the sums. -/
def outsP (lb : Memref sig .tc .vmem S4x64 .f32) (gb : Memref sig .tc .vmem S128x1 .f32) (ob : Memref sig .tc .vmem S2048x128 .bf16) (hob : ob.IsWhole)
    (ab : Memref sig .tc .vmem S2x144x2048 .f32) : Prog (TpuEff nD τ sig (Elt F) Λ₀ .tc) PUnit := do
  let l : Vec F S4x64 .f32 ← Prog.lift (.load lb (Rect.unit (s := S4x64) ![0, 0] S4x64.size inb_S4x64_S4x64_0_0).toLoadRect (View.loadsAt_vmem h_S4x64))
  let a0 : Vec F S1x144x2048 .f32 ← Prog.lift (.load ab (Rect.unit (s := S2x144x2048) ![0, 0, 0] S1x144x2048.size inb_S2x144x2048_S1x144x2048_0_0_0).toLoadRect (View.loadsAt_vmem h_S1x144x2048))
  let a1 : Vec F S1x144x2048 .f32 ← Prog.lift (.load ab (Rect.unit (s := S2x144x2048) ![1, 0, 0] S1x144x2048.size inb_S2x144x2048_S1x144x2048_1_0_0).toLoadRect (View.loadsAt_vmem h_S1x144x2048))
  let g : Vec F S128x1 .f32 ← Prog.lift (.load gb (Rect.unit (s := S128x1) ![0, 0] S128x1.size inb_S128x1_S128x1_0_0).toLoadRect (View.loadsAt_vmem h_S128x1))
  let _d : Vec F S2048x128 .bf16 ← Prog.lift (.load ob (Rect.unit (s := S2048x128) ![0, 0] S2048x128.size inb_S2048x128_S2048x128_0_0).toLoadRect (View.loadsAt_vmem h_S2048x128))
  Prog.lift (.store ob (Rect.unit (s := S2048x128) ![0, 0] S2048x128.size inb_S2048x128_S2048x128_0_0) (outPay l a0 a1 g) Finset.univ (View.stores_vmem h_S2048x128 (hob.storeExact_slice rfl _ packedbf16_S2048x128_S2048x128_0_0) (fun _ => rfl)) (.inl rfl))

/-- Every block of keys. -/
def blocksP (B : Bufs) (q0 q1 : FVec F S128x2048 .bf16) : Prog (TpuEff nD τ sig (Elt F) Λ₀ .tc) PUnit := do
  tiles fun t => score B.kb B.s0 B.c0 q0 q1 ![512 * (0 : Fin 16).val, 0] (inbK 0) t
  loopP B.kb B.vb B.mb B.ab B.s0 B.s1 B.c0 B.c1 q0 q1
  tiles fun t => do
    score B.kb B.s1 B.c1 q0 q1 ![512 * (15 : Fin 16).val, 0] (inbK 15) t
    accum B.vb B.mb B.ab B.s0 B.c0 ![(14 : Fin 16).val, 0, 0] (inbV 14) t
  tiles fun t => accum B.vb B.mb B.ab B.s1 B.c1 ![(15 : Fin 16).val, 0, 0] (inbV 15) t

/-- A point's programs after the values' transposing, the blocks apart from what is before and after them. -/
theorem bodyMain_eq (B : Bufs) (qb : Memref sig .tc .vmem S2048x128 .bf16) (lb : Memref sig .tc .vmem S4x64 .f32) (gb : Memref sig .tc .vmem S128x1 .f32)
    (ob : Memref sig .tc .vmem S2048x128 .bf16) (hob : ob.IsWhole) :
    bodyMain (F := F) qb B.kb lb gb ob hob B.vb B.mb B.ab B.s0 B.s1 B.c0 B.c1 = (do
  let x : Vec F S2048x128 .bf16 ← Prog.lift (.load qb (Rect.unit (s := S2048x128) ![0, 0] S2048x128.size inb_S2048x128_S2048x128_0_0).toLoadRect (View.loadsAt_vmem h_S2048x128))
  let _d : Vec F S2x1x2048 .f32 ← Prog.lift (.load B.mb rMw.toLoadRect (View.loadsAt_vmem h_S2x1x2048))
  Prog.lift (.store B.mb rMw m0Pay Finset.univ (View.stores_vmem_bits_univ h_S2x1x2048 rfl) (.inl rfl))
  let _e : Vec F S2x144x2048 .f32 ← Prog.lift (.load B.ab rAw.toLoadRect (View.loadsAt_vmem h_S2x144x2048))
  Prog.lift (.store B.ab rAw a0Pay Finset.univ (View.stores_vmem_bits_univ h_S2x144x2048 rfl) (.inl rfl))
  blocksP B (q0Pay x) (q1Pay x)
  outsP lb gb ob hob B.ab) := by
  unfold bodyMain bodyTail blocksP outsP
  simp only [Prog.bind_assoc]

theorem wp_outs (lb : Memref sig .tc .vmem S4x64 .f32) (gb : Memref sig .tc .vmem S128x1 .f32) (ob : Memref sig .tc .vmem S2048x128 .bf16) (hob : ob.IsWhole)
    (ab : Memref sig .tc .vmem S2x144x2048 .f32) (xl : Vec F S4x64 .f32) (xg : Vec F S128x1 .f32) (Xo : Vec F S2048x128 .bf16) (X : XA F) (a0 a1 : Vec F S1x144x2048 .f32)
    (h0 : rd (Rect.unit (s := S2x144x2048) ![0, 0, 0] S1x144x2048.size inb_S2x144x2048_S1x144x2048_0_0_0) X = a0)
    (h1 : rd (Rect.unit (s := S2x144x2048) ![1, 0, 0] S1x144x2048.size inb_S2x144x2048_S1x144x2048_1_0_0) X = a1) :
    iprop(owns (c : Thread nD τ) lb fullShare xl ∗ owns (c : Thread nD τ) gb fullShare xg ∗ owns (c : Thread nD τ) ob fullShare Xo ∗ owns (c : Thread nD τ) ab fullShare X)
      ⊢ wpB c (outsP lb gb ob hob ab)
        (fun _ => iprop(owns (c : Thread nD τ) lb fullShare xl ∗ owns (c : Thread nD τ) gb fullShare xg ∗ owns (c : Thread nD τ) ob fullShare (outPay xl a0 a1 xg) ∗ owns (c : Thread nD τ) ab fullShare X)) := by
  rw [← Prog.bind_pure (outsP lb gb ob hob ab)]
  unfold outsP
  simp only [Prog.bind_assoc]
  iintro ⟨Hl, Hg, Ho, Ha⟩
  iapply (wp_load_owns c lb) $$ Hl; iintro Hl
  iapply (wp_load_owns c ab) $$ Ha; iintro Ha
  iapply (wp_load_owns c ab) $$ Ha; iintro Ha
  iapply (wp_load_owns c gb) $$ Hg; iintro Hg
  iapply (wp_load_owns c ob) $$ Ho; iintro Ho
  iapply (wp_store_owns c ob) $$ Ho; iintro Ho
  iapply (le_wp_ret frame (wpE (defs₀ (F := F)) Variants.none (c : Thread nD τ) none) Set.univ PUnit.unit)
  rw [h0, h1, rd_full, rd_full, upd_full]
  isplitl [Hl]; · iassumption
  isplitl [Hg]; · iassumption
  isplitl [Ho] <;> iassumption

theorem wp_main (qb : Memref sig .tc .vmem S2048x128 .bf16) (lb : Memref sig .tc .vmem S4x64 .f32) (gb : Memref sig .tc .vmem S128x1 .f32)
    (ob : Memref sig .tc .vmem S2048x128 .bf16) (hob : ob.IsWhole) (xq : Vec F S2048x128 .bf16) (xl : Vec F S4x64 .f32) (xg : Vec F S128x1 .f32)
    (Xo : Vec F S2048x128 .bf16) (hX : IsVt xv Xv) (σ : St F) :
    iprop(owns (c : Thread nD τ) qb fullShare xq ∗ owns (c : Thread nD τ) lb fullShare xl ∗ owns (c : Thread nD τ) gb fullShare xg ∗ owns (c : Thread nD τ) ob fullShare Xo
        ∗ own c B xk Xv σ)
      ⊢ wpB c (bodyMain qb B.kb lb gb ob hob B.vb B.mb B.ab B.s0 B.s1 B.c0 B.c1)
        (fun _ => iprop(owns (c : Thread nD τ) qb fullShare xq ∗ owns (c : Thread nD τ) lb fullShare xl ∗ owns (c : Thread nD τ) gb fullShare xg
          ∗ owns (c : Thread nD τ) ob fullShare (outBlk xq xk xv xl xg) ∗ own c B xk Xv (finF xk Xv (qP xq 0) (qP xq 1) σ))) := by
  have hblocks : Tr c B xk Xv (blocksP B (q0Pay xq) (q1Pay xq)) _ :=
    Tr.seq (tr_head c B xk Xv _ _) (Tr.seq (tr_loop _ _) (Tr.seq (tr_tail0 c B xk Xv _ _) (tr_tail1 c B xk Xv)))
  have hV := vBlk_eq hX
  have hacc : ∀ cc t, rd (rA cc t) (finF xk Xv (qP xq 0) (qP xq 1) σ).a = Av xk (vtN xv) (qP xq) cc t 16 := fun cc t => by
    rw [finF_at xk (qP xq) Xv σ cc t, hV]
  have hfin : own c B xk Xv (resetF σ) ⊢ wpB c (blocksP B (q0Pay xq) (q1Pay xq)) (fun _ => own c B xk Xv (finF xk Xv (qP xq 0) (qP xq 1) σ)) := hblocks (resetF σ)
  generalize finF xk Xv (qP xq 0) (qP xq 1) σ = ω at hacc hfin ⊢
  rw [bodyMain_eq]
  unfold own resetF at hfin
  dsimp only at hfin
  unfold own
  iintro ⟨Hq, Hl, Hg, Ho, Hk, Hv, Hm, Ha, Hs0, Hs1, Hc0, Hc1⟩
  iapply (wp_load_owns c qb) $$ Hq; iintro Hq
  iapply (wp_load_owns c B.mb) $$ Hm; iintro Hm
  iapply (wp_store_owns c B.mb) $$ Hm; iintro Hm
  iapply (wp_load_owns c B.ab) $$ Ha; iintro Ha
  iapply (wp_store_owns c B.ab) $$ Ha; iintro Ha
  rw [rd_full]
  unfold wpB
  rw [wp_bind]
  iapply (wp_wand frame (wpE (defs₀ (F := F)) Variants.none (c : Thread nD τ) none) Set.univ) $$ [Hk Hv Hm Ha Hs0 Hs1 Hc0 Hc1]
  · iapply hfin
    isplitl [Hk]; · iassumption
    isplitl [Hv]; · iassumption
    isplitl [Hm]; · iassumption
    isplitl [Ha]; · iassumption
    isplitl [Hs0]; · iassumption
    isplitl [Hs1]; · iassumption
    isplitl [Hc0] <;> iassumption
  iintro %u ⟨Hk, Hv, Hm, Ha, Hs0, Hs1, Hc0, Hc1⟩
  iapply (wp_wand frame (wpE (defs₀ (F := F)) Variants.none (c : Thread nD τ) none) Set.univ) $$ [Hl Hg Ho Ha]
  · iapply (wp_outs c lb gb ob hob B.ab xl xg Xo ω.a _ _ (rd_acc _ _ 0 rfl xk (vtN xv) (qP xq) ω.a (hacc 0)) (rd_acc _ _ 1 rfl xk (vtN xv) (qP xq) ω.a (hacc 1)))
    isplitl [Hl]; · iassumption
    isplitl [Hg]; · iassumption
    isplitl [Ho] <;> iassumption
  iintro %v ⟨Hl, Hg, Ho, Ha⟩
  isplitl [Hq]; · iassumption
  isplitl [Hl]; · iassumption
  isplitl [Hg]; · iassumption
  isplitl [Ho]; · unfold outBlk; iassumption
  isplitl [Hk]; · iassumption
  isplitl [Hv]; · iassumption
  isplitl [Hm]; · iassumption
  isplitl [Ha]; · iassumption
  isplitl [Hs0]; · iassumption
  isplitl [Hs1]; · iassumption
  isplitl [Hc0] <;> iassumption

end Cert.KernelIdeal.Attn

end
-- ==== Proof.Run.lean ====
/- The run: between points the scratch holds the values of the batch and head of the point before, transposed; so each point
   leaves in the output's buffer its block as a function of the blocks it reads. -/
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks a point reads, at their shapes -/

def bq (c : Dev nD) (t : Fin cfg0.N) : Vec F S2048x128 .bf16 := iblk m c 0 t
def bk (c : Dev nD) (t : Fin cfg0.N) : XK F := iblk m c 1 t
def bv (c : Dev nD) (t : Fin cfg0.N) : XK F := iblk m c 2 t
def bl (c : Dev nD) (t : Fin cfg0.N) : Vec F S4x64 .f32 := iblk m c 3 t
def bg (c : Dev nD) (t : Fin cfg0.N) : Vec F S128x1 .f32 := iblk m c 4 t

/-- The block a point writes. -/
def bo (c : Dev nD) (t : Fin cfg0.N) : Vec F S2048x128 .bf16 := outBlk (bq m c t) (bk m c t) (bv m c t) (bl m c t) (bg m c t)

/-! ## The invariant -/

abbrev sc0 : Memref sig .tc .vmem S16x144x512 .bf16 := Memref.whole cc0_scratch0
abbrev sc1 : Memref sig .tc .vmem S2x1x2048 .f32 := Memref.whole cc0_scratch1
abbrev sc2 : Memref sig .tc .vmem S2x144x2048 .f32 := Memref.whole cc0_scratch2
abbrev sc3 : Memref sig .tc .vmem S2x512x2048 .f32 := Memref.whole cc0_scratch3
abbrev sc4 : Memref sig .tc .vmem S2x512x2048 .f32 := Memref.whole cc0_scratch4
abbrev sc5 : Memref sig .tc .vmem S2x1x2048 .f32 := Memref.whole cc0_scratch5
abbrev sc6 : Memref sig .tc .vmem S2x1x2048 .f32 := Memref.whole cc0_scratch6

/-- Before point `n` the scratch holds the values of the point before, if there is one. -/
def VtAt (c : Dev nD) (n : ℕ) (X : XV F) : Prop := ∀ t : Fin cfg0.N, t.val + 1 = n → IsVt (bv m c t) X

def PhiN (c : Dev nD) (n : ℕ) : sProp 𝕄 :=
  iprop(iprop((∃ d, ⌜VtAt m c n d⌝ ∗ owns (c : Thread nD τ) sc0 fullShare d) ∗ (∃ d, owns (c : Thread nD τ) sc1 fullShare d) ∗ (∃ d, owns (c : Thread nD τ) sc2 fullShare d)
    ∗ (∃ d, owns (c : Thread nD τ) sc3 fullShare d) ∗ (∃ d, owns (c : Thread nD τ) sc4 fullShare d) ∗ (∃ d, owns (c : Thread nD τ) sc5 fullShare d)
    ∗ (∃ d, owns (c : Thread nD τ) sc6 fullShare d)) ∗ (∃ r, prngReg c r))

theorem anyScratch_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)
    ∗ (∃ d, owns (c : Thread nD τ) sc3 fullShare d) ∗ (∃ d, owns (c : Thread nD τ) sc4 fullShare d) ∗ (∃ d, owns (c : Thread nD τ) sc5 fullShare d)
    ∗ (∃ d, owns (c : Thread nD τ) sc6 fullShare d)) ∗ (∃ r, prngReg c r)) := by
  unfold Pipeline.ΦA
  rw [scopedRest0_eq]
  simp only [sc0, sc1, sc2, sc3, sc4, sc5, sc6, owns_whole]
  rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => bo m c t
  Φ t := PhiN m c t.val
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = bo m c t := by dsimp only [dats]

theorem before_0 (c : Dev nD) (t : Fin cfg0.N) (d) : (dats m 0 c).before 0 t d = bq m c t := before0_0_of m (dats m 0 c) (A_eq m c 0) (after_0 m c) t d
theorem before_1 (c : Dev nD) (t : Fin cfg0.N) (d) : (dats m 0 c).before 1 t d = bk m c t := before0_1_of m (dats m 0 c) (A_eq m c 1) (after_1 m c) t d
theorem before_2 (c : Dev nD) (t : Fin cfg0.N) (d) : (dats m 0 c).before 2 t d = bv m c t := before0_2_of m (dats m 0 c) (A_eq m c 2) (after_2 m c) t d
theorem before_3 (c : Dev nD) (t : Fin cfg0.N) (d) : (dats m 0 c).before 3 t d = bl m c t := before0_3_of m (dats m 0 c) (A_eq m c 3) (after_3 m c) t d
theorem before_4 (c : Dev nD) (t : Fin cfg0.N) (d) : (dats m 0 c).before 4 t d = bg m c t := before0_4_of m (dats m 0 c) (A_eq m c 4) (after_4 m c) t d

/-- Where the values are not fetched their block is the point before's. -/
theorem bv_prev (c : Dev nD) (t t' : Fin cfg0.N) (ht : t'.val + 1 = t.val) (h4 : t.val % 4 ≠ 0) : bv m c t = bv m c t' := by
  have hf : (cfg0.win 2).fetch t = false := by
    rw [← Bool.not_eq_true]
    exact fun e => h4 ((fetch0_2 t).mp e)
  obtain ⟨h0, hix⟩ := (cfg0.win 2).index_eq_of_fetch rfl t hf
  have ht' : (⟨t.val - 1, Nat.lt_of_le_of_lt (Nat.sub_le _ _) t.isLt⟩ : Fin cfg0.N) = t' := Fin.ext (by show t.val - 1 = t'.val; omega)
  rw [ht'] at hix
  have d : (cfg0.win 2).block.Idx → Elt F (cfg0.win 2).elt := (dats m 0 c).after 2 t
  have e : ∀ t, (dats m 0 c).fetched 2 t d = bv m c t := fun t =>
    ((dats m 0 c).before_in_eq_fetched 2 rfl (fun _ => rfl) (fun _ _ _ => rfl) (fun t => by rw [after_2]; unfold Dat.blockOf iblk; rw [A_eq]) t d).symm.trans (before_2 m c t d)
  rw [← e t, ← e t']
  exact (dats m 0 c).fetched_congr 2 hix rfl d

/-- A point is its batch and head's first where the values are fetched. -/
theorem firstPt_iff : ∀ t : Fin cfg0.N, firstPt (grid0.coords t) = 1#1 ↔ t.val % 4 = 0 :=
  (by decide +kernel : ∀ t : Fin grid0.N, firstPt (grid0.coords t) = 1#1 ↔ t.val % 4 = 0)

/-! ## A point -/

/-- A point's buffers. -/
theorem wp_rest (c : Dev nD) (B : Bufs) (qb : Memref sig .tc .vmem S2048x128 .bf16) (xb : Memref sig .tc .vmem S8192x128 .bf16) (lb : Memref sig .tc .vmem S4x64 .f32) (gb : Memref sig .tc .vmem S128x1 .f32)
    (ob : Memref sig .tc .vmem S2048x128 .bf16) (hob : ob.IsWhole) (xq Xo : Vec F S2048x128 .bf16) (xk xv : XK F) (xl : Vec F S4x64 .f32) (xg : Vec F S128x1 .f32) (X : XV F) (hX : IsVt xv X) :
    iprop(owns (c : Thread nD τ) qb fullShare xq ∗ owns (c : Thread nD τ) B.kb fullShare xk ∗ owns (c : Thread nD τ) xb fullShare xv ∗ owns (c : Thread nD τ) lb fullShare xl
        ∗ owns (c : Thread nD τ) gb fullShare xg ∗ owns (c : Thread nD τ) ob fullShare Xo ∗ owns (c : Thread nD τ) B.vb fullShare X
        ∗ (∃ d, owns (c : Thread nD τ) B.mb fullShare d) ∗ (∃ d, owns (c : Thread nD τ) B.ab fullShare d) ∗ (∃ d, owns (c : Thread nD τ) B.s0 fullShare d)
        ∗ (∃ d, owns (c : Thread nD τ) B.s1 fullShare d) ∗ (∃ d, owns (c : Thread nD τ) B.c0 fullShare d) ∗ (∃ d, owns (c : Thread nD τ) B.c1 fullShare d))
      ⊢ wpB c (bodyMain qb B.kb lb gb ob hob B.vb B.mb B.ab B.s0 B.s1 B.c0 B.c1)
        (fun _ => iprop(owns (c : Thread nD τ) qb fullShare xq ∗ owns (c : Thread nD τ) B.kb fullShare xk ∗ owns (c : Thread nD τ) xb fullShare xv ∗ owns (c : Thread nD τ) lb fullShare xl
        ∗ owns (c : Thread nD τ) gb fullShare xg ∗ owns (c : Thread nD τ) ob fullShare (outBlk xq xk xv xl xg) ∗ (∃ d, ⌜IsVt xv d⌝ ∗ owns (c : Thread nD τ) B.vb fullShare d)
        ∗ (∃ d, owns (c : Thread nD τ) B.mb fullShare d) ∗ (∃ d, owns (c : Thread nD τ) B.ab fullShare d) ∗ (∃ d, owns (c : Thread nD τ) B.s0 fullShare d)
        ∗ (∃ d, owns (c : Thread nD τ) B.s1 fullShare d) ∗ (∃ d, owns (c : Thread nD τ) B.c0 fullShare d) ∗ (∃ d, owns (c : Thread nD τ) B.c1 fullShare d))) := by
  iintro ⟨Hq, Hk, Hv, Hl, Hg, Ho, Hvb, ⟨%xm, Hm⟩, ⟨%xa, Ha⟩, ⟨%xs0, Hs0⟩, ⟨%xs1, Hs1⟩, ⟨%xc0, Hc0⟩, ⟨%xc1, Hc1⟩⟩
  iapply (wp_wand frame (wpE (defs₀ (F := F)) Variants.none (c : Thread nD τ) none) Set.univ) $$ [Hq Hk Hl Hg Ho Hvb Hm Ha Hs0 Hs1 Hc0 Hc1]
  · iapply (wp_main c B xk xv X qb lb gb ob hob xq xl xg Xo hX ⟨xm, xa, xs0, xs1, xc0, xc1⟩)
    unfold own
    dsimp only
    isplitl [Hq]; · iexact Hq
    isplitl [Hl]; · iexact Hl
    isplitl [Hg]; · iexact Hg
    isplitl [Ho]; · iexact Ho
    isplitl [Hk]; · iexact Hk
    isplitl [Hvb]; · iexact Hvb
    isplitl [Hm]; · iexact Hm
    isplitl [Ha]; · iexact Ha
    isplitl [Hs0]; · iexact Hs0
    isplitl [Hs1]; · iexact Hs1
    isplitl [Hc0]; · iexact Hc0
    iexact Hc1
  generalize finF xk X (qP xq 0) (qP xq 1) ⟨xm, xa, xs0, xs1, xc0, xc1⟩ = ω
  unfold own
  iintro %u ⟨Hq, Hl, Hg, Ho, Hk, Hvb, Hm, Ha, Hs0, Hs1, Hc0, Hc1⟩
  isplitl [Hq]; · iexact Hq
  isplitl [Hk]; · iexact Hk
  isplitl [Hv]; · iexact Hv
  isplitl [Hl]; · iexact Hl
  isplitl [Hg]; · iexact Hg
  isplitl [Ho]; · iexact Ho
  isplitl [Hvb]
  · iexists _; isplitr; · ipureintro; exact hX
    iexact Hvb
  isplitl [Hm]; · iexists _; iexact Hm
  isplitl [Ha]; · iexists _; iexact Ha
  isplitl [Hs0]; · iexists _; iexact Hs0
  isplitl [Hs1]; · iexists _; iexact Hs1
  isplitl [Hc0]; · iexists _; iexact Hc0
  iexists _; iexact Hc1

theorem wp_point (c : Dev nD) (i : grid0.Coords) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S2048x128 .bf16) (harg8 : arg8.IsWhole) (arg9 : Memref sig .tc .vmem S16x144x512 .bf16) (harg9 : arg9.IsWhole) (arg10 : Memref sig .tc .vmem S2x1x2048 .f32) (harg10 : arg10.IsWhole) (arg11 : Memref sig .tc .vmem S2x144x2048 .f32) (harg11 : arg11.IsWhole) (arg12 : Memref sig .tc .vmem S2x512x2048 .f32) (harg12 : arg12.IsWhole) (arg13 : Memref sig .tc .vmem S2x512x2048 .f32) (harg13 : arg13.IsWhole) (arg14 : Memref sig .tc .vmem S2x1x2048 .f32) (harg14 : arg14.IsWhole) (arg15 : Memref sig .tc .vmem S2x1x2048 .f32) (harg15 : arg15.IsWhole)
    (xq Xo : Vec F S2048x128 .bf16) (xk xv : XK F) (xl : Vec F S4x64 .f32) (xg : Vec F S128x1 .f32) (X : XV F) (hX : ¬firstPt i = 1#1 → IsVt xv X) :
    iprop(owns (c : Thread nD τ) arg3 fullShare xq ∗ owns (c : Thread nD τ) arg4 fullShare xk ∗ owns (c : Thread nD τ) arg5 fullShare xv ∗ owns (c : Thread nD τ) arg6 fullShare xl
        ∗ owns (c : Thread nD τ) arg7 fullShare xg ∗ owns (c : Thread nD τ) arg8 fullShare Xo ∗ owns (c : Thread nD τ) arg9 fullShare X
        ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d) ∗ (∃ d, owns (c : Thread nD τ) arg15 fullShare d))
      ⊢ wpB c (cc0_diff_attn (F := F) i arg3 harg3 arg4 harg4 arg5 harg5 arg6 harg6 arg7 harg7 arg8 harg8 arg9 harg9 arg10 harg10 arg11 harg11 arg12 harg12 arg13 harg13 arg14 harg14 arg15 harg15)
        (fun _ => iprop(owns (c : Thread nD τ) arg3 fullShare xq ∗ owns (c : Thread nD τ) arg4 fullShare xk ∗ owns (c : Thread nD τ) arg5 fullShare xv ∗ owns (c : Thread nD τ) arg6 fullShare xl
        ∗ owns (c : Thread nD τ) arg7 fullShare xg ∗ owns (c : Thread nD τ) arg8 fullShare (outBlk xq xk xv xl xg) ∗ (∃ d, ⌜IsVt xv d⌝ ∗ owns (c : Thread nD τ) arg9 fullShare d)
        ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d) ∗ (∃ d, owns (c : Thread nD τ) arg15 fullShare d))) := by
  rw [body_eq]
  have hr := fun X hX => wp_rest (F := F) c ⟨arg4, arg9, arg10, arg11, arg12, arg13, arg14, arg15⟩ arg3 arg5 arg6 arg7 arg8 harg8 xq Xo xk xv xl xg X hX
  dsimp only at hr
  by_cases h : firstPt i = 1#1
  · rw [dif_pos h]
    unfold wpB
    rw [wp_bind]
    iintro ⟨Hq, Hk, Hv, Hl, Hg, Ho, Hvb, Hr⟩
    iapply (wp_wand frame (wpE (defs₀ (F := F)) Variants.none (c : Thread nD τ) none) Set.univ) $$ [Hv Hvb]
    · iapply (wp_fills c arg5 arg9 harg9 xv X)
      unfold ownV
      isplitl [Hv]; · iexact Hv
      iexact Hvb
    unfold ownV
    iintro %u ⟨Hv, Hvb⟩
    iapply (hr _ (fills_vt xv X))
    isplitl [Hq]; · iexact Hq
    isplitl [Hk]; · iexact Hk
    isplitl [Hv]; · iexact Hv
    isplitl [Hl]; · iexact Hl
    isplitl [Hg]; · iexact Hg
    isplitl [Ho]; · iexact Ho
    isplitl [Hvb]; · iexact Hvb
    iexact Hr
  · rw [dif_neg h]
    exact hr X (hX h)

/-! ## The body obligation -/

theorem leaves_eq (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact
  rw [hi]

theorem point_triple (c : Dev nD) (t : Fin cfg0.N) :
    iprop((dats m 0 c).Φ t.castSucc ∗ (dats m 0 c).owesAt () t.castSucc
        ∗ (∃ d, owns (c : Thread nD τ) (st0_0 t) fullShare ((dats m 0 c).before 0 t d)) ∗ (∃ d, owns (c : Thread nD τ) (st0_1 t) fullShare ((dats m 0 c).before 1 t d))
        ∗ (∃ d, owns (c : Thread nD τ) (st0_2 t) fullShare ((dats m 0 c).before 2 t d)) ∗ (∃ d, owns (c : Thread nD τ) (st0_3 t) fullShare ((dats m 0 c).before 3 t d))
        ∗ (∃ d, owns (c : Thread nD τ) (st0_4 t) fullShare ((dats m 0 c).before 4 t d)) ∗ (∃ d, owns (c : Thread nD τ) (st0_5 t) fullShare ((dats m 0 c).before 5 t d)))
      ⊢ wpB c (bodyAt0 t) (fun _ => iprop((dats m 0 c).Φ t.succ ∗ (dats m 0 c).owesAt () t.succ ∗ (dats m 0 c).leavesExact 0 t ∗ (dats m 0 c).leavesExact 1 t
        ∗ (dats m 0 c).leavesExact 2 t ∗ (dats m 0 c).leavesExact 3 t ∗ (dats m 0 c).leavesExact 4 t ∗ (dats m 0 c).leavesExact 5 t)) := by
  rw [leaves_eq m c 0 t rfl, leaves_eq m c 1 t rfl, leaves_eq m c 2 t rfl, leaves_eq m c 3 t rfl, leaves_eq m c 4 t rfl, leaves_eq m c 5 t rfl,
    after_0, after_1, after_2, after_3, after_4, after_5,
    show (dats m 0 c).owesAt () t.succ = (dats m 0 c).owesAt () t.castSucc from rfl,
    show (dats m 0 c).Φ t.succ = PhiN m c (t.val + 1) from rfl,
    show (dats m 0 c).Φ t.castSucc = PhiN m c t.val from by dsimp only [dats]; exact Pipeline.Dat.Φ_castSucc (fun n _ => PhiN m c n) t]
  simp only [before_0, before_1, before_2, before_3, before_4]
  unfold PhiN bodyAt0
  iintro ⟨⟨⟨⟨%X, %hX, Hvb⟩, Hm, Ha, Hs0, Hs1, Hc0, Hc1⟩, Hp⟩, Hw, ⟨%d0, Hq⟩, ⟨%d1, Hk⟩, ⟨%d2, Hv⟩, ⟨%d3, Hl⟩, ⟨%d4, Hg⟩, ⟨%d5, Ho⟩⟩
  have hX' : ¬firstPt (grid0.coords t) = 1#1 → IsVt (bv m c t) X := fun h => by
    have h4 : t.val % 4 ≠ 0 := fun e => h ((firstPt_iff t).mpr e)
    have hlt : t.val - 1 < cfg0.N := Nat.lt_of_le_of_lt (Nat.sub_le _ _) t.isLt
    have hp : (⟨t.val - 1, hlt⟩ : Fin cfg0.N).val + 1 = t.val := by show t.val - 1 + 1 = t.val; omega
    rw [bv_prev m c t ⟨t.val - 1, hlt⟩ hp h4]
    exact hX _ hp
  iapply (wp_wand frame (wpE (defs₀ (F := F)) Variants.none (c : Thread nD τ) none) Set.univ) $$ [Hvb Hm Ha Hs0 Hs1 Hc0 Hc1 Hq Hk Hv Hl Hg Ho]
  · iapply (wp_point c (grid0.coords t) _ _ _ _ _ _ _ _ _ _ _ _ _ _ _ _ _ _ _ _ _ _ _ _ _ _ (bq m c t) _ (bk m c t) (bv m c t) (bl m c t) (bg m c t) X hX')
    isplitl [Hq]; · iexact Hq
    isplitl [Hk]; · iexact Hk
    isplitl [Hv]; · iexact Hv
    isplitl [Hl]; · iexact Hl
    isplitl [Hg]; · iexact Hg
    isplitl [Ho]; · iexact Ho
    isplitl [Hvb]; · iexact Hvb
    isplitl [Hm]; · iexact Hm
    isplitl [Ha]; · iexact Ha
    isplitl [Hs0]; · iexact Hs0
    isplitl [Hs1]; · iexact Hs1
    isplitl [Hc0]; · iexact Hc0
    iexact Hc1
  iintro %u ⟨Hq, Hk, Hv, Hl, Hg, Ho, ⟨%X', %hX2, Hvb⟩, Hr⟩
  isplitl [Hvb Hr Hp]
  · isplitl [Hvb Hr]
    · isplitl [Hvb]
      · iexists _; isplitr
        swap; · iexact Hvb
        ipureintro
        intro t' ht'
        rw [show t' = t from Fin.ext (by omega)]
        exact hX2
      iexact Hr
    iexact Hp
  isplitl [Hw]; · iexact Hw
  isplitl [Hq]; · iexact Hq
  isplitl [Hk]; · iexact Hk
  isplitl [Hv]; · iexact Hv
  isplitl [Hl]; · iexact Hl
  isplitl [Hg]; · iexact Hg
  iexact Ho

theorem body_row (t : Fin cfg0.N) : defs₀ (F := F) .tc cfg0.body (cfg0.bodyArgs t (cfg0.slots t)) = bodyAt0 t := by
  unfold defs₀
  rw [Defs.onTc_tc]

theorem obligation (c : Dev nD) : BodyObligation (dats (F := F) m 0 c) (defs₀ (F := F)) Variants.none () Set.univ := fun t => by
  rw [bigSep_W0, bigSep_W0, body_row]
  exact triple_restated (point_triple m c t) rfl .rfl fun _ => .rfl

theorem enter (c : Dev nD) : Pipeline.ΦA spec0 c ⊢ (dats m 0 c).Φ 0 := by
  rw [show (dats m 0 c).Φ 0 = PhiN m c 0 from rfl, anyScratch_eq]
  unfold PhiN
  iintro ⟨⟨⟨%X, H⟩, Hr⟩, Hp⟩
  isplitr [Hp]
  · isplitl [H]
    · iexists _; isplitr
      swap; · iexact H
      ipureintro
      intro t ht
      exact absurd ht (Nat.succ_ne_zero _)
    iexact Hr
  iexact Hp

theorem leave (c : Dev nD) : (dats m 0 c).Φ (Fin.last cfg0.N) ⊢ Pipeline.ΦA spec0 c := by
  rw [show (dats m 0 c).Φ (Fin.last cfg0.N) = PhiN m c cfg0.N from rfl, anyScratch_eq]
  unfold PhiN
  iintro ⟨⟨⟨%X, %hX, H⟩, Hr⟩, Hp⟩
  isplitr [Hp]
  · isplitl [H]
    · iexists _; iexact H
    iexact Hr
  iexact Hp

/-! ## The run -/

theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

theorem run : θ_run defs (onTc (τ := τ) (main (F := F))) (s₀ m ρ) (Pipeline.FramePost cfgs (dats m) 0 (V m)) :=
  (θ_run defs _ _).mono (fun _ h => h.1) (run_quiet m ρ)

/-- Every execution ends, the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run m ρ)) ((θ_run defs _ _).mono (fun _ h => h.2) (run_quiet m ρ))

end Cert.KernelIdeal.Attn

end
-- ==== Proof.Frames.lean ====
/- The frames of the three programs. `KernelIdeal` prints the text of `Kernel`, so the run proved once for any float
   values is the run of both; the reference is a list of host operations. -/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Claim

@[expose] public section

noncomputable section

namespace Cert.Attn

open Idealize.ShloMosaic Idealize.SL.Sem

instance factsK : Cert.Kernel.Facts := Cert.Kernel.Gen.facts
instance factsKI : Cert.KernelIdeal.Facts := Cert.KernelIdeal.Gen.facts
instance factsRI : Cert.ReferenceIdeal.Facts := Cert.ReferenceIdeal.Gen.facts

set_option maxRecDepth 65536 in
/-- Both texts have one body table. -/
theorem defs_eq : Cert.Kernel.defs (F := Bits) = Cert.KernelIdeal.defs (F := Bits) := by sl_kernel_rfl

set_option maxRecDepth 65536 in
/-- Both texts have one @main. -/
theorem main_eq : Cert.Kernel.main (F := Bits) = Cert.KernelIdeal.main (F := Bits) := by sl_kernel_rfl

set_option maxRecDepth 65536 in
theorem frame_kernel : Cert.quiescent_Kernel := by
  intro m ρ _
  have h := Cert.KernelIdeal.Attn.frame (F := Bits) m ρ
  rw [← main_eq, ← defs_eq] at h
  exact h

theorem frame_ideal : Cert.quiescent_KernelIdeal := fun m ρ _ => Cert.KernelIdeal.Attn.frame m ρ

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Attn

end
-- ==== Proof.Online.lean ====
/- The mathematics of one query: weights computed block by block under a running maximum, against weights computed at once. -/
module

public import Idealize.ShloMosaic.PureOps.Ideal.Laws

@[expose] public section

noncomputable section

namespace Cert.Attn

open Idealize.ShloMosaic
open scoped BigOperators

/-- The running maximum after `n` blocks of scores, -/
def onM (s : ℕ → Fin 512 → EReal) : ℕ → EReal
  | 0 => ⊥
  | n + 1 => max (onM s n) ((Finset.univ : Finset (Fin 512)).fold max ⊥ (s n))

/-- and the running weighted sum of the values, rescaled when the maximum moves. -/
def onA (s v : ℕ → Fin 512 → EReal) : ℕ → EReal
  | 0 => 0
  | n + 1 => Ideal.exp2 (onM s n - onM s (n + 1)) * onA s v n + ∑ k, v n k * Ideal.exp2 (s n k - onM s (n + 1))

/-- A maximum of finitely many reals, from minus infinity, is a real. -/
theorem fold_max_real {n : ℕ} (hn : 0 < n) (s : Fin n → ℝ) :
    ∃ r : ℝ, (Finset.univ : Finset (Fin n)).fold max (⊥ : EReal) (fun k => (s k : EReal)) = r := by
  have key : ∀ S : Finset (Fin n), S.fold max (⊥ : EReal) (fun k => (s k : EReal)) = ⊥ ∧ S = ∅ ∨
      ∃ r : ℝ, S.fold max (⊥ : EReal) (fun k => (s k : EReal)) = r := by
    intro S
    induction S using Finset.induction_on with
    | empty => exact .inl ⟨rfl, rfl⟩
    | insert a S ha ih =>
      right
      rw [Finset.fold_insert ha]
      rcases ih with ⟨h, -⟩ | ⟨r, h⟩
      · exact ⟨s a, by rw [h, max_eq_left bot_le]⟩
      · exact ⟨max (s a) r, by rw [h]; exact (EReal.coe_strictMono.monotone.map_max).symm⟩
  rcases key Finset.univ with ⟨-, h⟩ | h
  · exact absurd (h ▸ Finset.mem_univ (⟨0, hn⟩ : Fin n)) (Finset.notMem_empty _)
  · exact h

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Weighted sum of the values, weights `2 ^ (s - μ)`, over the first `n` blocks. -/
def bs (s v : ℕ → Fin 512 → ℝ) (μ : ℝ) (n : ℕ) : ℝ := ∑ b ∈ Finset.range n, ∑ k, v b k * Real.rpow 2 (s b k - μ)

theorem bs_shift (s v : ℕ → Fin 512 → ℝ) (μ ν : ℝ) (n : ℕ) : Real.rpow 2 (μ - ν) * bs s v μ n = bs s v ν n := by
  unfold bs
  rw [Finset.mul_sum]
  refine Finset.sum_congr rfl fun b _ => ?_
  rw [Finset.mul_sum]
  refine Finset.sum_congr rfl fun k _ => ?_
  have h : Real.rpow 2 (μ - ν) * Real.rpow 2 (s b k - μ) = Real.rpow 2 (s b k - ν) := by
    have := (Real.rpow_add (by norm_num : (0 : ℝ) < 2) (μ - ν) (s b k - μ)).symm
    rw [show μ - ν + (s b k - μ) = s b k - ν by ring] at this
    exact this
  rw [← h]; ring

/-- After at least one block the maximum is a real and the sum is the sum at that maximum. -/
theorem on_eq (s : ℕ → Fin 512 → ℝ) : ∀ n, ∃ μ : ℝ, onM (fun b k => (s b k : EReal)) (n + 1) = μ ∧
    ∀ v : ℕ → Fin 512 → ℝ, onA (fun b k => (s b k : EReal)) (fun b k => (v b k : EReal)) (n + 1) = (bs s v μ (n + 1) : ℝ)
  | 0 => by
    obtain ⟨r, hr⟩ := fold_max_real (by norm_num : 0 < 512) (s 0)
    have hM : onM (fun b k => (s b k : EReal)) 1 = r := by
      show max ⊥ _ = _
      rw [max_eq_right bot_le]; exact hr
    refine ⟨r, hM, fun v => ?_⟩
    show Ideal.exp2 (⊥ - onM _ 1) * 0 + _ = _
    rw [mul_zero, zero_add, zero_add, hM]
    unfold bs
    rw [Finset.sum_range_one, coe_sum]
    refine Finset.sum_congr rfl fun k _ => ?_
    rw [← EReal.coe_sub, Ideal.exp2_coe, ← EReal.coe_mul]
  | n + 1 => by
    obtain ⟨μ, hμ, ih⟩ := on_eq s n
    obtain ⟨r, hr⟩ := fold_max_real (by norm_num : 0 < 512) (s (n + 1))
    have hM : onM (fun b k => (s b k : EReal)) (n + 1 + 1) = (max μ r : ℝ) := by
      rw [onM, hμ, hr]; exact (EReal.coe_strictMono.monotone.map_max).symm
    refine ⟨max μ r, hM, fun v => ?_⟩
    rw [onA, hM, hμ, ih v, ← EReal.coe_sub, Ideal.exp2_coe, ← EReal.coe_mul, bs_shift]
    have e : ∑ k, (v (n + 1) k : EReal) * Ideal.exp2 ((s (n + 1) k : EReal) - (max μ r : ℝ)) = ((∑ k, v (n + 1) k * Real.rpow 2 (s (n + 1) k - max μ r) : ℝ) : EReal) := by
      rw [coe_sum]
      refine Finset.sum_congr rfl fun k _ => ?_
      rw [← EReal.coe_sub, Ideal.exp2_coe, ← EReal.coe_mul]
    rw [e, ← EReal.coe_add]
    unfold bs
    rw [Finset.sum_range_succ _ (n + 1)]

/-! ## Sums over the blocks, and over all the keys -/

theorem sum_blocks (f : ℕ → ℝ) : ∀ n, ∑ b ∈ Finset.range n, ∑ k : Fin 512, f (512 * b + k.val) = ∑ i ∈ Finset.range (512 * n), f i
  | 0 => by simp
  | n + 1 => by
    rw [Finset.sum_range_succ, sum_blocks f n, Nat.mul_succ, Finset.sum_range_add, ← Fin.sum_univ_eq_sum_range (fun x => f (512 * n + x)) 512]

/-- The sum of the weights of all the keys, -/
def wsum (s : ℕ → ℝ) : ℝ := ∑ i ∈ Finset.range 8192, Real.rpow 2 (s i)
/-- and the weighted sum of the values. -/
def wval (s v : ℕ → ℝ) : ℝ := ∑ i ∈ Finset.range 8192, v i * Real.rpow 2 (s i)

theorem wsum_pos (s : ℕ → ℝ) : 0 < wsum s :=
  Finset.sum_pos (fun i _ => Real.rpow_pos_of_pos (by norm_num) _) ⟨0, by simp⟩

theorem div_real (a b : ℝ) (h : b ≠ 0) : Ideal.div (a : EReal) (b : EReal) = (a / b : ℝ) := by
  rw [Ideal.div_coe h, ← EReal.coe_mul, mul_one_div]

theorem bs_val (s v : ℕ → ℝ) (μ : ℝ) : bs (fun b k => s (512 * b + k.val)) (fun b k => v (512 * b + k.val)) μ 16 = Real.rpow 2 (-μ) * wval s v := by
  rw [show bs (fun b k => s (512 * b + k.val)) (fun b k => v (512 * b + k.val)) μ 16
      = Real.rpow 2 (0 - μ) * bs (fun b k => s (512 * b + k.val)) (fun b k => v (512 * b + k.val)) 0 16 from (bs_shift _ _ 0 μ 16).symm, zero_sub]
  have h := sum_blocks (fun i => v i * Real.rpow 2 (s i)) 16
  have e : bs (fun b k => s (512 * b + k.val)) (fun b k => v (512 * b + k.val)) 0 16 = wval s v := by
    unfold bs wval
    rw [show (8192 : ℕ) = 512 * 16 by norm_num, ← h]
    refine Finset.sum_congr rfl fun b _ => Finset.sum_congr rfl fun k _ => ?_
    rw [sub_zero]
  rw [e]

/-- The blockwise sums' quotient is the weighted mean of the values over all the keys. -/
theorem on_ratio (s v : ℕ → ℝ) :
    Ideal.div (onA (fun b k => (s (512 * b + k.val) : EReal)) (fun b k => (v (512 * b + k.val) : EReal)) 16)
        (onA (fun b k => (s (512 * b + k.val) : EReal)) (fun _ _ => 1) 16) = (wval s v / wsum s : ℝ) := by
  obtain ⟨μ, -, h⟩ := on_eq (fun b k => s (512 * b + k.val)) 15
  have h1 := h (fun _ _ => 1)
  have h2 := h (fun b k => v (512 * b + k.val))
  have e1 := bs_val s (fun _ => 1) μ
  have e0 : wval s (fun _ => 1) = wsum s := by unfold wval wsum; simp only [one_mul]
  rw [e0] at e1
  have hp : (0 : ℝ) < Real.rpow 2 (-μ) := Real.rpow_pos_of_pos (by norm_num) _
  have hw := wsum_pos s
  have h1' : onA (fun b k => (s (512 * b + k.val) : EReal)) (fun _ _ => 1) 16 = ((Real.rpow 2 (-μ) * wsum s : ℝ) : EReal) := by
    rw [← e1]; exact h1
  have h2' : onA (fun b k => (s (512 * b + k.val) : EReal)) (fun b k => (v (512 * b + k.val) : EReal)) 16 = ((Real.rpow 2 (-μ) * wval s v : ℝ) : EReal) := by
    rw [← bs_val s v μ]; exact h2
  rw [h1', h2', div_real _ _ (mul_pos hp hw).ne', mul_div_mul_left _ _ hp.ne']

/-! ## The weights computed at once -/

/-- `exp (s ln 2 - m)` over its sum is `2 ^ s` over its sum, whatever the real `m`. -/
theorem soft_eq (s : ℕ → ℝ) (m : ℝ) (i : Fin 8192) :
    Ideal.div (Ideal.exp ((s i.val : EReal) * ((Real.log 2 : ℝ) : EReal) - (m : EReal)))
        (0 + ∑ k : Fin 8192, Ideal.exp ((s k.val : EReal) * ((Real.log 2 : ℝ) : EReal) - (m : EReal)))
      = (Real.rpow 2 (s i.val) / wsum s : ℝ) := by
  have e : ∀ x : ℝ, Ideal.exp ((x : EReal) * ((Real.log 2 : ℝ) : EReal) - (m : EReal)) = ((Real.exp (-m) * Real.rpow 2 x : ℝ) : EReal) := by
    intro x
    rw [← EReal.coe_mul, ← EReal.coe_sub, Ideal.exp_coe]
    congr 1
    rw [show Real.rpow 2 x = Real.exp (Real.log 2 * x) from Real.rpow_def_of_pos (by norm_num) x, ← Real.exp_add]
    congr 1; ring
  have e2 : (∑ k : Fin 8192, Ideal.exp ((s k.val : EReal) * ((Real.log 2 : ℝ) : EReal) - (m : EReal))) = ((Real.exp (-m) * wsum s : ℝ) : EReal) := by
    unfold wsum
    rw [Finset.mul_sum, ← Fin.sum_univ_eq_sum_range (fun i => Real.exp (-m) * Real.rpow 2 (s i)) 8192, coe_sum]
    exact Finset.sum_congr rfl fun k _ => e _
  rw [zero_add, e2, e, div_real _ _ (mul_pos (Real.exp_pos _) (wsum_pos s)).ne', mul_div_mul_left _ _ (Real.exp_pos _).ne']

/-- The difference of two components' weighted means is the values' sum under the difference of the weights. -/
theorem diff_eq (s0 s1 v : ℕ → ℝ) (lam : ℝ) :
    ∑ k : Fin 8192, (((Real.rpow 2 (s0 k.val) / wsum s0 : ℝ) : EReal) - (lam : EReal) * ((Real.rpow 2 (s1 k.val) / wsum s1 : ℝ) : EReal)) * (v k.val : EReal)
      = ((wval s0 v / wsum s0 : ℝ) : EReal) - (lam : EReal) * ((wval s1 v / wsum s1 : ℝ) : EReal) := by
  have e : ∀ k : Fin 8192, (((Real.rpow 2 (s0 k.val) / wsum s0 : ℝ) : EReal) - (lam : EReal) * ((Real.rpow 2 (s1 k.val) / wsum s1 : ℝ) : EReal)) * (v k.val : EReal)
      = (((fun i => v i * Real.rpow 2 (s0 i) / wsum s0 - lam * (v i * Real.rpow 2 (s1 i) / wsum s1)) k.val : ℝ) : EReal) := by
    intro k
    rw [← EReal.coe_mul, ← EReal.coe_sub, ← EReal.coe_mul]
    congr 1; ring
  rw [Finset.sum_congr rfl fun k _ => e k, ← coe_sum,
    Fin.sum_univ_eq_sum_range (fun i => v i * Real.rpow 2 (s0 i) / wsum s0 - lam * (v i * Real.rpow 2 (s1 i) / wsum s1)) 8192,
    Finset.sum_sub_distrib, ← Finset.mul_sum, ← Finset.sum_div, ← Finset.sum_div, ← EReal.coe_mul, ← EReal.coe_sub]
  rfl

end Cert.Attn

end
-- ==== Proof.KVal.lean ====
/- What one block of the kernel computes, over the extended reals, read at an index. -/
module

public import proofs.«01_k».proof.Proof.Body
public import proofs.«01_k».proof.Proof.Online
public import Idealize.ShloMosaic.Lib.Pointwise
public import Idealize.ShloMosaic.Lib.ValueIdx
public import Idealize.ShloMosaic.Lib.IdealHost

@[expose] public section

noncomputable section

namespace Cert.KernelIdeal.Attn

open Cert.KernelIdeal Cert.KernelIdeal.Gen Cert.Attn
open Idealize.ShloMosaic
open scoped BigOperators

/-! ## Scores -/

theorem sc_apply (kc : Vec Ideal S512x128 .bf16) (q : FVec Ideal S128x2048 .bf16) (t : Fin 8) (k : Fin 512) (j : Fin 256) :
    sc kc q t (ix2 k j) = ∑ d : Fin 128, kc (ix2 k d) * q (ix2 d ⟨256 * t.val + j.val, by omega⟩) := by
  unfold sc
  pointwise

theorem lt_word : ∀ d : Fin 128, IntOp.cmpi CmpIPredicate.slt (BitVec.ofNat 32 d.val) 64#32 = if d.val < 64 then 1#1 else 0#1 := by decide
theorem ge_word : ∀ d : Fin 128, IntOp.cmpi CmpIPredicate.sge (BitVec.ofNat 32 d.val) 64#32 = if d.val < 64 then 0#1 else 1#1 := by decide

theorem q0Pay_apply (x : Vec Ideal S2048x128 .bf16) (d : Fin 128) (r : Fin 2048) :
    q0Pay x (ix2 d r) = if d.val < 64 then x (ix2 r d) else 0 := by
  unfold q0Pay
  pointwise
  rw [lt_word]
  split <;> rfl

theorem q1Pay_apply (x : Vec Ideal S2048x128 .bf16) (d : Fin 128) (r : Fin 2048) :
    q1Pay x (ix2 d r) = if d.val < 64 then 0 else x (ix2 r d) := by
  unfold q1Pay
  pointwise
  rw [ge_word]
  split <;> rfl

theorem ofBits_ninf : Ideal.ofBits .f32 0xFF800000#32 = ⊥ := by simp [Ideal.ofBits, Ideal.ieee]

theorem cmPay_apply (kc : Vec Ideal S512x128 .bf16) (q : FVec Ideal S128x2048 .bf16) (t : Fin 8) (j : Fin 256) :
    cmPay kc q t (ix3 0 0 j) = (Finset.univ : Finset (Fin 512)).fold max ⊥ (fun k => sc kc q t (ix2 k j)) := by
  rw [← ofBits_ninf]
  unfold cmPay
  pointwise

theorem scPay_apply (kc : Vec Ideal S512x128 .bf16) (q : FVec Ideal S128x2048 .bf16) (t : Fin 8) (k : Fin 512) (j : Fin 256) :
    scPay kc q t (ix3 0 k j) = sc kc q t (ix2 k j) := by
  unfold scPay
  pointwise

theorem mPay_apply (m cm : Vec Ideal S1x1x256 .f32) (j : Fin 256) : mPay m cm (ix3 0 0 j) = max (m (ix3 0 0 j)) (cm (ix3 0 0 j)) := by
  unfold mPay mNew
  pointwise

theorem accPay_apply (vt : Vec Ideal S1x144x512 .bf16) (m cm : Vec Ideal S1x1x256 .f32) (s : Vec Ideal S1x512x256 .f32) (a : Vec Ideal S1x144x256 .f32)
    (y : Fin 144) (j : Fin 256) :
    accPay vt m cm s a (ix3 0 y j) = Ideal.exp2 (m (ix3 0 0 j) - max (m (ix3 0 0 j)) (cm (ix3 0 0 j))) * a (ix3 0 y j)
      + ∑ k : Fin 512, vt (ix3 0 y k) * Ideal.exp2 (s (ix3 0 k j) - max (m (ix3 0 0 j)) (cm (ix3 0 0 j))) := by
  unfold accPay pW mNew
  pointwise
  rfl

theorem vtPay_apply (v : Vec Ideal S512x128 .bf16) (y : Fin 128) (k : Fin 512) : vtPay v (ix3 0 y k) = v (ix2 k y) := by
  unfold vtPay
  pointwise

theorem onesPay_apply (y : Fin 16) (k : Fin 512) : onesPay (F := Ideal) (ix3 0 y k) = 1 := by
  rw [← Ideal.ofBits_one_bf16]
  unfold onesPay
  pointwise

theorem m0Pay_apply (c : Fin 2) (r : Fin 2048) : m0Pay (F := Ideal) (ix3 c 0 r) = ⊥ := by
  rw [← ofBits_ninf]
  unfold m0Pay
  pointwise

theorem a0Pay_apply (c : Fin 2) (y : Fin 144) (r : Fin 2048) : a0Pay (F := Ideal) (ix3 c y r) = 0 := by
  unfold a0Pay
  pointwise

theorem ratio_apply (a : Vec Ideal S1x144x2048 .f32) (e : Fin 128) (r : Fin 2048) :
    ratio a (ix2 e r) = Ideal.div (a (ix3 0 ⟨e.val, by omega⟩ r)) (a (ix3 0 128 r)) := by
  unfold ratio
  pointwise

theorem lamPay_apply (l : Vec Ideal S4x64 .f32) :
    lamPay l (ix2 0 0) = Ideal.exp (∑ d : Fin 64, l (ix2 0 d) * l (ix2 1 d)) - Ideal.exp (∑ d : Fin 64, l (ix2 2 d) * l (ix2 3 d)) + Ideal.ofBits .f32 0x3E4CCCCD#32 := by
  unfold lamPay
  pointwise

theorem diffPay_apply (l : Vec Ideal S4x64 .f32) (a0 a1 : Vec Ideal S1x144x2048 .f32) (e : Fin 128) (r : Fin 2048) :
    diffPay l a0 a1 (ix2 e r) = ratio a0 (ix2 e r) - lamPay l (ix2 0 0) * ratio a1 (ix2 e r) := by
  unfold diffPay
  pointwise

/-- A normalised, scaled entry, from the row it stands in. -/
def norm (o : Fin 128 → EReal) (g : EReal) (e : Fin 128) : EReal :=
  o e * Ideal.rsqrt (Ideal.div (∑ e', o e' * o e') (Ideal.ofBits .f32 0x43000000#32) + Ideal.ofBits .f32 0x358637BD#32) * g * Ideal.ofBits .f32 0x3F4CCCCD#32

theorem outPay_apply (l : Vec Ideal S4x64 .f32) (a0 a1 : Vec Ideal S1x144x2048 .f32) (g : Vec Ideal S128x1 .f32) (r : Fin 2048) (e : Fin 128) :
    outPay l a0 a1 g (ix2 r e) = norm (fun e' => diffPay l a0 a1 (ix2 e' r)) (g (ix2 e 0)) e := by
  unfold outPay norm
  pointwise

/-! ## The blocks' sums -/

theorem rd_rK (X : XK Ideal) (j : Fin 16) (k : Fin 512) (d : Fin 128) : rd (rK j) X (ix2 k d) = X (ix2 ⟨512 * j.val + k.val, by omega⟩ d) := by
  refine congrArg X (funext fun a => Fin.ext ?_)
  match a with
  | ⟨0, _⟩ => show 512 * j.val + 1 * k.val = 512 * j.val + k.val; rw [one_mul]
  | ⟨1, _⟩ => show 0 + 1 * d.val = d.val; rw [one_mul, zero_add]

theorem vtN_lo (xv : XK Ideal) (n : ℕ) (y : Fin 144) (h : y.val < 128) (k : Fin 512) :
    vtN xv n (ix3 0 y k) = xv (ix2 ⟨512 * (n % 16) + k.val, by omega⟩ ⟨y.val, h⟩) := by
  unfold vtN vtBlk
  refine (dif_pos (show (ix3 (0 : Fin 1) y k 1).val < 128 from h)).trans ?_
  exact (vtPay_apply (rd (rK ⟨n % 16, Nat.mod_lt _ (by decide)⟩) xv) ⟨y.val, h⟩ k).trans (rd_rK xv ⟨n % 16, Nat.mod_lt _ (by decide)⟩ k _)

theorem vtN_hi (xv : XK Ideal) (n : ℕ) (y : Fin 144) (h : ¬ y.val < 128) (k : Fin 512) : vtN xv n (ix3 0 y k) = 1 := by
  unfold vtN vtBlk
  refine (dif_neg (show ¬ (ix3 (0 : Fin 1) y k 1).val < 128 from h)).trans ?_
  exact onesPay_apply _ _

variable (xk : XK Ideal) (V : ℕ → Vec Ideal S1x144x512 .bf16) (q : Fin 2 → FVec Ideal S128x2048 .bf16)

theorem Mv_apply (c : Fin 2) (t : Fin 8) (j : Fin 256) : ∀ n, Mv xk q c t n (ix3 0 0 j) = onM (fun b k => sc (kBlk xk b) (q c) t (ix2 k j)) n
  | 0 => by
    show m0Pay (F := Ideal) ((rC c t).emb (ix3 0 0 j)) = ⊥
    rw [ValueIdx.eq_ix3 ((rC c t).emb (ix3 0 0 j))]
    have e : (rC c t).emb (ix3 0 0 j) 1 = (0 : Fin 1) := Subsingleton.elim (α := Fin 1) _ _
    rw [e]
    exact m0Pay_apply _ _
  | n + 1 => by
    show mPay _ _ _ = _
    rw [mPay_apply, Mv_apply c t j n, cmPay_apply]
    rfl

theorem Av_apply (c : Fin 2) (t : Fin 8) (y : Fin 144) (j : Fin 256) : ∀ n, Av xk V q c t n (ix3 0 y j)
      = onA (fun b k => sc (kBlk xk b) (q c) t (ix2 k j)) (fun b k => V b (ix3 0 y k)) n
  | 0 => by
    show a0Pay (F := Ideal) ((rA c t).emb (ix3 0 y j)) = 0
    rw [ValueIdx.eq_ix3 ((rA c t).emb (ix3 0 y j))]
    exact a0Pay_apply _ _ _
  | n + 1 => by
    have hm : max (Mv xk q c t n (ix3 0 0 j)) (cmPay (kBlk xk n) (q c) t (ix3 0 0 j)) = onM (fun b k => sc (kBlk xk b) (q c) t (ix2 k j)) (n + 1) := by
      rw [← Mv_apply]; exact (mPay_apply _ _ _).symm
    show accPay _ _ _ _ _ _ = _
    rw [accPay_apply, Av_apply c t y j n, hm, Mv_apply]
    simp only [scPay_apply]
    rfl

/-- One component's score of a query `r` against a key `i`. -/
def score1 (xq : Vec Ideal S2048x128 .bf16) (c : Fin 2) (r : Fin 2048) (i : Fin 8192) : EReal :=
  ∑ d : Fin 64, xk (ix2 i ⟨64 * c.val + d.val, by omega⟩) * xq (ix2 r ⟨64 * c.val + d.val, by omega⟩)

theorem sum_halves (f : Fin 128 → EReal) : ∑ d, f d = (∑ d : Fin 64, f ⟨d.val, by omega⟩) + ∑ d : Fin 64, f ⟨64 + d.val, by omega⟩ :=
  Fin.sum_univ_add (M := EReal) (a := 64) (b := 64) f

theorem sc_score (xq : Vec Ideal S2048x128 .bf16) (c : Fin 2) (r : Fin 2048) (b : ℕ) (k : Fin 512) :
    sc (kBlk xk b) (qP xq c) ⟨r.val / 256, by omega⟩ (ix2 k ⟨r.val % 256, by omega⟩)
      = score1 xk xq c r ⟨512 * (b % 16) + k.val, by omega⟩ := by
  have hr : (⟨256 * (r.val / 256) + r.val % 256, by omega⟩ : Fin 2048) = r := Fin.ext (Nat.div_add_mod _ _)
  rw [sc_apply]
  simp only [hr]
  have hk : ∀ d, kBlk xk b (ix2 k d) = xk (ix2 ⟨512 * (b % 16) + k.val, by omega⟩ d) := fun d => rd_rK xk ⟨b % 16, Nat.mod_lt _ (by decide)⟩ k d
  simp only [hk]
  rw [sum_halves]
  unfold score1
  match c with
  | 0 =>
    have e0 : ∀ d : Fin 64, qP xq 0 (ix2 ⟨d.val, by omega⟩ r) = xq (ix2 r ⟨d.val, by omega⟩) := fun d => (q0Pay_apply xq _ r).trans (if_pos d.isLt)
    have e1 : ∀ d : Fin 64, qP xq 0 (ix2 ⟨64 + d.val, by omega⟩ r) = 0 := fun d => (q0Pay_apply xq _ r).trans (if_neg (by show ¬ 64 + d.val < 64; omega))
    simp only [e0, e1, mul_zero, Finset.sum_const_zero, add_zero]
    refine Finset.sum_congr rfl fun d _ => ?_
    have e : (⟨d.val, by omega⟩ : Fin 128) = ⟨64 * (0 : Fin 2).val + d.val, by show 64 * 0 + d.val < 128; omega⟩ := Fin.ext (by show d.val = 64 * 0 + d.val; omega)
    rw [e]
  | 1 =>
    have e0 : ∀ d : Fin 64, qP xq 1 (ix2 ⟨d.val, by omega⟩ r) = 0 := fun d => (q1Pay_apply xq _ r).trans (if_pos d.isLt)
    have e1 : ∀ d : Fin 64, qP xq 1 (ix2 ⟨64 + d.val, by omega⟩ r) = xq (ix2 r ⟨64 + d.val, by omega⟩) := fun d => (q1Pay_apply xq _ r).trans (if_neg (by show ¬ 64 + d.val < 64; omega))
    simp only [e0, e1, mul_zero, Finset.sum_const_zero, zero_add]
    rfl

theorem accFull_apply (xq : Vec Ideal S2048x128 .bf16) (c : Fin 2) (y : Fin 144) (r : Fin 2048) :
    accFull xk V (qP xq) c (ix3 0 y r) = onA (fun b k => score1 xk xq c r ⟨512 * (b % 16) + k.val, by omega⟩) (fun b k => V b (ix3 0 y k)) 16 := by
  simp only [← sc_score]
  exact Av_apply xk V (qP xq) c ⟨r.val / 256, by omega⟩ y ⟨r.val % 256, by omega⟩ 16

/-! ## The output block, over the reals -/

/-- The scores of one query row `qr` against the key rows `kr`, in component `c`. -/
def sTab (kr : ℕ → Fin 128 → ℝ) (qr : Fin 128 → ℝ) (c : Fin 2) (i : ℕ) : ℝ :=
  ∑ d : Fin 64, kr (i % 8192) ⟨64 * c.val + d.val, by omega⟩ * qr ⟨64 * c.val + d.val, by omega⟩

/-- The weighted mean of the values in component `c`. -/
def mean (kr vr : ℕ → Fin 128 → ℝ) (qr : Fin 128 → ℝ) (c : Fin 2) (e : Fin 128) : ℝ :=
  wval (sTab kr qr c) (fun i => vr (i % 8192) e) / wsum (sTab kr qr c)

theorem ratio_mean (xq : Vec Ideal S2048x128 .bf16) (xv : XK Ideal) (kr vr : ℕ → Fin 128 → ℝ) (qr : Fin 128 → ℝ) (r : Fin 2048)
    (hk : ∀ (i : Fin 8192) d, xk (ix2 i d) = (kr i.val d : EReal)) (hv : ∀ (i : Fin 8192) d, xv (ix2 i d) = (vr i.val d : EReal))
    (hq : ∀ d, xq (ix2 r d) = (qr d : EReal)) (c : Fin 2) (e : Fin 128) :
    ratio (accFull xk (vtN xv) (qP xq) c) (ix2 e r) = (mean kr vr qr c e : ℝ) := by
  have hm : ∀ b (k : Fin 512), (512 * b + k.val) % 8192 = 512 * (b % 16) + k.val := by intro b k; omega
  have hs : ∀ b (k : Fin 512), score1 xk xq c r ⟨512 * (b % 16) + k.val, by omega⟩ = ((sTab kr qr c (512 * b + k.val) : ℝ) : EReal) := by
    intro b k
    unfold score1 sTab
    rw [coe_sum]
    refine Finset.sum_congr rfl fun d _ => ?_
    rw [hk, hq, EReal.coe_mul, hm]
  have hV : ∀ b (k : Fin 512), vtN xv b (ix3 0 ⟨e.val, by omega⟩ k) = (((fun i => vr (i % 8192) e) (512 * b + k.val) : ℝ) : EReal) := by
    intro b k
    rw [vtN_lo xv b _ e.isLt, hv]
    show _ = ((vr ((512 * b + k.val) % 8192) e : ℝ) : EReal)
    rw [hm]
  have h1 : ∀ b (k : Fin 512), vtN xv b (ix3 0 128 k) = 1 := fun b k => vtN_hi xv b 128 (by decide) k
  rw [ratio_apply, accFull_apply, accFull_apply]
  simp only [hs, hV, h1]
  exact on_ratio (sTab kr qr c) (fun i => vr (i % 8192) e)

theorem outBlk_apply (xq : Vec Ideal S2048x128 .bf16) (xv : XK Ideal) (xl : Vec Ideal S4x64 .f32) (xg : Vec Ideal S128x1 .f32)
    (kr vr : ℕ → Fin 128 → ℝ) (qr : Fin 128 → ℝ) (r : Fin 2048)
    (hk : ∀ (i : Fin 8192) d, xk (ix2 i d) = (kr i.val d : EReal)) (hv : ∀ (i : Fin 8192) d, xv (ix2 i d) = (vr i.val d : EReal))
    (hq : ∀ d, xq (ix2 r d) = (qr d : EReal)) (e : Fin 128) :
    outBlk xq xk xv xl xg (ix2 r e)
      = norm (fun e' => (mean kr vr qr 0 e' : EReal) - lamPay xl (ix2 0 0) * (mean kr vr qr 1 e' : EReal)) (xg (ix2 e 0)) e := by
  unfold outBlk
  rw [outPay_apply]
  simp only [diffPay_apply, ratio_mean xk xq xv kr vr qr r hk hv hq]

end Cert.KernelIdeal.Attn

end
-- ==== Proof.Val.lean ====
/- The attention call's result array, entry by entry, from the call's arguments. -/
module

public import proofs.«01_k».proof.Proof.Run
public import proofs.«01_k».proof.Proof.KVal
public import Idealize.ShloMosaic.Lib.Pipeline.ValueKit
public import Idealize.ShloMosaic.Lib.Claim

@[expose] public section

set_option maxRecDepth 16384

noncomputable section

namespace Cert.KernelIdeal.Attn

open Idealize.ShloMosaic Idealize.ShloMosaic.TcCoe Idealize.SL.Sem
open Cert.KernelIdeal Cert.KernelIdeal.Gen Cert.Attn

variable (m : (ℓ : Loc nD τ sig) → Buf (Elt Ideal) ℓ) (ρ : Dev nD → PrngReg)

/-! ## The blocks' places -/

theorem idx_eq : ∀ t : Fin cfg0.N, win0_0.index t = ![t.val / 32 * 4 + t.val % 4, 24 + t.val / 4 % 8] ∧ win0_1.index t = ![t.val / 32, 32 + t.val / 4 % 8]
    ∧ win0_2.index t = ![t.val / 32, 40 + t.val / 4 % 8] ∧ win0_3.index t = ![0, 0] ∧ win0_4.index t = ![0, 0]
    ∧ win0_5.index t = ![t.val / 32 * 4 + t.val % 4, t.val / 4 % 8] := by decide +kernel

theorem t_lt (t : Fin cfg0.N) : t.val < 64 := t.isLt

theorem bq_apply (c : Dev nD) (t : Fin cfg0.N) (r : Fin 2048) (d : Fin 128) : bq m c t (ix2 r d)
    = m ((c.tc : Thread nD τ).loc main_arg0) (ix2 (⟨(t.val / 32 * 4 + t.val % 4) * 2048 + r.val, by have := t_lt t; omega⟩ : Fin 16384) (⟨(24 + t.val / 4 % 8) * 128 + d.val, by omega⟩ : Fin 10240)) := by
  unfold bq
  blk_ext [iblk, V, idx_eq t]

theorem bk_apply (c : Dev nD) (t : Fin cfg0.N) (r : Fin 8192) (d : Fin 128) : bk m c t (ix2 r d)
    = m ((c.tc : Thread nD τ).loc main_arg0) (ix2 (⟨t.val / 32 * 8192 + r.val, by have := t_lt t; omega⟩ : Fin 16384) (⟨(32 + t.val / 4 % 8) * 128 + d.val, by omega⟩ : Fin 10240)) := by
  unfold bk
  blk_ext [iblk, V, idx_eq t]

theorem bv_apply (c : Dev nD) (t : Fin cfg0.N) (r : Fin 8192) (d : Fin 128) : bv m c t (ix2 r d)
    = m ((c.tc : Thread nD τ).loc main_arg0) (ix2 (⟨t.val / 32 * 8192 + r.val, by have := t_lt t; omega⟩ : Fin 16384) (⟨(40 + t.val / 4 % 8) * 128 + d.val, by omega⟩ : Fin 10240)) := by
  unfold bv
  blk_ext [iblk, V, idx_eq t]

theorem bg_blk (c : Dev nD) (t : Fin cfg0.N) (e : Fin 128) : bg m c t (ix2 e 0) = V m c main_v10 (ix2 e (0 : Fin 1)) := by
  unfold bg
  blk_ext [iblk, idx_eq t]

theorem bg_apply (c : Dev nD) (t : Fin cfg0.N) (e : Fin 128) : bg m c t (ix2 e 0) = m ((c.tc : Thread nD τ).loc main_arg5) (ix2 (0 : Fin 1) e) := by
  rw [bg_blk]
  entry_read
  pointwise

theorem bl_blk (c : Dev nD) (t : Fin cfg0.N) (i : Fin 4) (d : Fin 64) : bl m c t (ix2 i d) = V m c main_v8 (ix2 i d) := by
  unfold bl
  blk_ext [iblk, idx_eq t]

/-- A lambda vector as a row of the stacked array. -/
def lamRow (x : Vec Ideal S1x64 .f32) : Vec Ideal S1x64 .f32 := broadcastInDim S1x64 ![1] bcast_S64_S1x64_1 (shapeCast S64 x shapeCasts_S1x64_S64)

theorem lamRow_apply (x : Vec Ideal S1x64 .f32) (d : Fin 64) : lamRow x (ix2 0 d) = x (ix2 0 d) := by
  unfold lamRow
  pointwise

/-- Four rows stacked. -/
def stack4 (x0 x1 x2 x3 : Vec Ideal S1x64 .f32) : Vec Ideal S4x64 .f32 :=
  concatenate S4x64 0 [⟨S1x64, x0⟩, ⟨S1x64, x1⟩, ⟨S1x64, x2⟩, ⟨S1x64, x3⟩] concatenates_S1x64_S1x64_S1x64_S1x64_S4x64_d0

theorem stack4_0 (x0 x1 x2 x3 : Vec Ideal S1x64 .f32) (d : Fin 64) : stack4 x0 x1 x2 x3 (ix2 0 d) = x0 (ix2 0 d) := by
  unfold stack4
  pointwise
theorem stack4_1 (x0 x1 x2 x3 : Vec Ideal S1x64 .f32) (d : Fin 64) : stack4 x0 x1 x2 x3 (ix2 1 d) = x1 (ix2 0 d) := by
  unfold stack4
  pointwise
theorem stack4_2 (x0 x1 x2 x3 : Vec Ideal S1x64 .f32) (d : Fin 64) : stack4 x0 x1 x2 x3 (ix2 2 d) = x2 (ix2 0 d) := by
  unfold stack4
  pointwise
theorem stack4_3 (x0 x1 x2 x3 : Vec Ideal S1x64 .f32) (d : Fin 64) : stack4 x0 x1 x2 x3 (ix2 3 d) = x3 (ix2 0 d) := by
  unfold stack4
  pointwise

open StableHlo in
theorem V_lam (c : Dev nD) : V m c main_v8 = stack4 (lamRow (m ((c.tc : Thread nD τ).loc main_arg1))) (lamRow (m ((c.tc : Thread nD τ).loc main_arg2)))
    (lamRow (m ((c.tc : Thread nD τ).loc main_arg3))) (lamRow (m ((c.tc : Thread nD τ).loc main_arg4))) := by
  have key : ∀ (F : Valuation τ sig (Elt Ideal)) (x0 x1 x2 x3 : Vec Ideal S1x64 .f32), F main_v4 = x0 → F main_v5 = x1 → F main_v6 = x2 → F main_v7 = x3
      → StableHlo.after ((hostOps0 (F := Ideal)).drop 8) F main_v8 = stack4 x0 x1 x2 x3 := by
    intro F x0 x1 x2 x3 h0 h1 h2 h3
    show StableHlo.after [_, _, _] F main_v8 = _
    simp only [after_cons, after_nil]
    rw [reshape_result_ne (h := (by decide : main_v8 ≠ main_v10)), reshape_result_ne (h := (by decide : main_v8 ≠ main_v9)), nary_result, ← h0, ← h1, ← h2, ← h3]
    rfl
  show StableHlo.after ((hostOps0 (F := Ideal)).drop 8) (StableHlo.after ((hostOps0 (F := Ideal)).take 8) (fun b => m (c, b))) main_v8 = _
  refine key _ _ _ _ _ ?_ ?_ ?_ ?_
  all_goals
    show StableHlo.after [_, _, _, _, _, _, _, _] _ _ = _
    after_results
    rfl

/-- The scalar that weighs the second component. -/
def lamOf (a1 a2 a3 a4 : Vec Ideal S1x64 .f32) : EReal :=
  Ideal.exp (∑ d : Fin 64, a1 (ix2 0 d) * a2 (ix2 0 d)) - Ideal.exp (∑ d : Fin 64, a3 (ix2 0 d) * a4 (ix2 0 d)) + Ideal.ofBits .f32 0x3E4CCCCD#32

theorem lam_eq (c : Dev nD) (t : Fin cfg0.N) : lamPay (bl m c t) (ix2 0 0)
    = lamOf (m ((c.tc : Thread nD τ).loc main_arg1)) (m ((c.tc : Thread nD τ).loc main_arg2)) (m ((c.tc : Thread nD τ).loc main_arg3)) (m ((c.tc : Thread nD τ).loc main_arg4)) := by
  rw [show bl m c t = V m c main_v8 from funext fun y => by rw [ValueIdx.eq_ix2 y]; exact bl_blk m c t _ _, V_lam, lamPay_apply]
  unfold lamOf
  simp only [stack4_0, stack4_1, stack4_2, stack4_3, lamRow_apply]

/-! ## The array -/

/-- The key rows that meet entry `(R, C)` of the result, -/
def krOf (pr : ℕ → ℕ → ℝ) (R C : ℕ) (i : ℕ) (d : Fin 128) : ℝ := pr (R / 8192 * 8192 + i) (4096 + C / 128 * 128 + d.val)
/-- the value rows, -/
def vrOf (pr : ℕ → ℕ → ℝ) (R C : ℕ) (i : ℕ) (d : Fin 128) : ℝ := pr (R / 8192 * 8192 + i) (5120 + C / 128 * 128 + d.val)
/-- and the query row. -/
def qrOf (pr : ℕ → ℕ → ℝ) (R C : ℕ) (d : Fin 128) : ℝ := pr R (3072 + C / 128 * 128 + d.val)

/-- Entry `(R, C)` of the result, from the projections `pr`, the scalar `L` and the gains `g`. -/
def outAt (pr : ℕ → ℕ → ℝ) (L : EReal) (g : Fin 128 → EReal) (R C : ℕ) : EReal :=
  norm (fun e => (mean (krOf pr R C) (vrOf pr R C) (qrOf pr R C) 0 e : EReal) - L * (mean (krOf pr R C) (vrOf pr R C) (qrOf pr R C) 1 e : EReal))
    (g ⟨C % 128, Nat.mod_lt _ (by decide)⟩) ⟨C % 128, Nat.mod_lt _ (by decide)⟩

variable (pr : ℕ → ℕ → ℝ)

theorem bo_apply (c : Dev nD) (hp : ∀ (a : Fin 16384) (b : Fin 10240), (m ((c.tc : Thread nD τ).loc main_arg0) : Vec Ideal S16384x10240 .bf16) (ix2 a b) = (pr a.val b.val : EReal))
    (t : Fin cfg0.N) (r : Fin 2048) (e : Fin 128) : bo m c t (ix2 r e)
      = outAt pr (lamOf (m ((c.tc : Thread nD τ).loc main_arg1)) (m ((c.tc : Thread nD τ).loc main_arg2)) (m ((c.tc : Thread nD τ).loc main_arg3)) (m ((c.tc : Thread nD τ).loc main_arg4)))
          (fun e => (m ((c.tc : Thread nD τ).loc main_arg5) : Vec Ideal S1x128 .f32) (ix2 0 e)) ((t.val / 32 * 4 + t.val % 4) * 2048 + r.val) (t.val / 4 % 8 * 128 + e.val) := by
  have ht := t_lt t
  generalize hR : (t.val / 32 * 4 + t.val % 4) * 2048 + r.val = R
  generalize hC : t.val / 4 % 8 * 128 + e.val = C
  have eR : R / 8192 = t.val / 32 := by omega
  have eC : C / 128 = t.val / 4 % 8 := by omega
  have ee : (⟨C % 128, Nat.mod_lt _ (by decide)⟩ : Fin 128) = e := Fin.ext (by show C % 128 = e.val; omega)
  have hq : ∀ d, bq m c t (ix2 r d) = (qrOf pr R C d : EReal) := fun d => by
    rw [bq_apply]
    refine (hp _ _).trans (congrArg _ ?_)
    unfold qrOf
    congr 1
    show (24 + t.val / 4 % 8) * 128 + d.val = _
    rw [eC]; omega
  have hk : ∀ (i : Fin 8192) d, bk m c t (ix2 i d) = (krOf pr R C i.val d : EReal) := fun i d => by
    rw [bk_apply]
    refine (hp _ _).trans (congrArg _ ?_)
    unfold krOf
    rw [eR, eC]
    congr 1
    show (32 + t.val / 4 % 8) * 128 + d.val = _
    omega
  have hv : ∀ (i : Fin 8192) d, bv m c t (ix2 i d) = (vrOf pr R C i.val d : EReal) := fun i d => by
    rw [bv_apply]
    refine (hp _ _).trans (congrArg _ ?_)
    unfold vrOf
    rw [eR, eC]
    congr 1
    show (40 + t.val / 4 % 8) * 128 + d.val = _
    omega
  unfold bo outAt
  rw [outBlk_apply (bk m c t) (bq m c t) (bv m c t) (bl m c t) (bg m c t) (krOf pr R C) (vrOf pr R C) (qrOf pr R C) r hk hv hq e, lam_eq, bg_apply, ee]

theorem arr_eq (c : Dev nD) (hp : ∀ (a : Fin 16384) (b : Fin 10240), (m ((c.tc : Thread nD τ).loc main_arg0) : Vec Ideal S16384x10240 .bf16) (ix2 a b) = (pr a.val b.val : EReal)) :
    (dats m 0 c).arrAt 5 cfg0.N = fun i : S16384x1024.Idx =>
      outAt pr (lamOf (m ((c.tc : Thread nD τ).loc main_arg1)) (m ((c.tc : Thread nD τ).loc main_arg2)) (m ((c.tc : Thread nD τ).loc main_arg3)) (m ((c.tc : Thread nD τ).loc main_arg4)))
          (fun e => (m ((c.tc : Thread nD τ).loc main_arg5) : Vec Ideal S1x128 .f32) (ix2 0 e)) (i 0).val (i 1).val := by
  refine (dats m 0 c).arrAt_eq_of_covers 5 _ (by decide +kernel) fun t hf y => ?_
  rw [after_5]
  blk_simp [idx_eq t]
  rw [← bo_apply m pr c hp t (y 0) (y 1)]
  exact congrArg _ (ValueIdx.eq_ix2 y)

end Cert.KernelIdeal.Attn

end
-- ==== Proof.RVal.lean ====
/- The reference's result, entry by entry, from the call's arguments. -/
module

public import proofs.«01_k».proof.Proof.Gen.ReferenceIdeal.Read
public import proofs.«01_k».proof.Proof.Val

@[expose] public section

set_option maxRecDepth 16384

noncomputable section

namespace Cert.ReferenceIdeal.Attn

open Idealize.ShloMosaic Idealize.ShloMosaic.TcCoe
open Cert.ReferenceIdeal Cert.ReferenceIdeal.Gen Cert.ReferenceIdeal.Read Cert.Attn
open Cert.KernelIdeal.Attn (krOf vrOf qrOf sTab mean outAt norm lamOf)

variable (x0 : (⟨S16384x10240, .bf16⟩ : BufTy).Contents (Elt Ideal)) (x1 x2 x3 x4 : (⟨S1x64, .f32⟩ : BufTy).Contents (Elt Ideal))
  (x5 : (⟨S1x128, .f32⟩ : BufTy).Contents (Elt Ideal)) (pr : ℕ → ℕ → ℝ)

/-- The projections hold the reals `pr`. -/
def IsReal : Prop := ∀ j : S16384x10240.Idx, x0 j = ((pr (j 0).val (j 1).val : ℝ) : EReal)

variable {x0 pr} (hp : IsReal x0 pr)
include hp

theorem v17_eq (i : S2x16x8192x64.Idx) : val_main_v17 (F := Ideal) x0 i = ((pr ((i 0).val * 8192 + (i 2).val) (3072 + ((i 1).val * 64 + (i 3).val)) : ℝ) : EReal) := by
  have h1 : (i 1).val < 16 := (i 1).isLt
  have h3 : (i 3).val < 64 := (i 3).isLt
  rw [val_main_v17_apply, val_main_v16_apply, val_main_v1_apply, val_main_v0_apply, hp]
  refine congrArg (fun x : ℝ => (x : EReal)) (congrArg₂ pr ?_ ?_)
  · show ((((i 0).val * 8192 + (i 2).val) * 16 + (i 1).val) * 64 + (i 3).val) / 1024 = _
    omega
  · show 3072 + ((((i 0).val * 8192 + (i 2).val) * 16 + (i 1).val) * 64 + (i 3).val) % 1024 = _
    omega

theorem v19_eq (i : S2x16x8192x64.Idx) : val_main_v19 (F := Ideal) x0 i = ((pr ((i 0).val * 8192 + (i 2).val) (4096 + ((i 1).val * 64 + (i 3).val)) : ℝ) : EReal) := by
  have h1 : (i 1).val < 16 := (i 1).isLt
  have h3 : (i 3).val < 64 := (i 3).isLt
  rw [val_main_v19_apply, val_main_v18_apply, val_main_v2_apply, val_main_v0_apply, hp]
  refine congrArg (fun x : ℝ => (x : EReal)) (congrArg₂ pr ?_ ?_)
  · show ((((i 0).val * 8192 + (i 2).val) * 16 + (i 1).val) * 64 + (i 3).val) / 1024 = _
    omega
  · show 4096 + ((((i 0).val * 8192 + (i 2).val) * 16 + (i 1).val) * 64 + (i 3).val) % 1024 = _
    omega

theorem v21_eq (i : S2x8x8192x128.Idx) : val_main_v21 (F := Ideal) x0 i = ((pr ((i 0).val * 8192 + (i 2).val) (5120 + ((i 1).val * 128 + (i 3).val)) : ℝ) : EReal) := by
  have h1 : (i 1).val < 8 := (i 1).isLt
  have h3 : (i 3).val < 128 := (i 3).isLt
  rw [val_main_v21_apply, val_main_v20_apply, val_main_v3_apply, val_main_v0_apply, hp]
  refine congrArg (fun x : ℝ => (x : EReal)) (congrArg₂ pr ?_ ?_)
  · show ((((i 0).val * 8192 + (i 2).val) * 8 + (i 1).val) * 128 + (i 3).val) / 1024 = _
    omega
  · show 5120 + ((((i 0).val * 8192 + (i 2).val) * 8 + (i 1).val) * 128 + (i 3).val) % 1024 = _
    omega

/-! ## The scores -/

/-- Head row `i` of the scores is component `c` of entry `(R, C)`. -/
def At (b hh r R C : ℕ) (c : Fin 2) : Prop := b * 8192 + r = R ∧ r < 8192 ∧ hh = 2 * (C / 128) + c.val

theorem v22_eq {R C : ℕ} {c : Fin 2} (i : S2x16x8192x8192.Idx) (h : At (i 0).val (i 1).val (i 2).val R C c) :
    val_main_v22 (F := Ideal) x0 i = ((sTab (krOf pr R C) (qrOf pr R C) c (i 3).val : ℝ) : EReal) := by
  obtain ⟨hR, hr, hh⟩ := h
  have h3 : (i 3).val < 8192 := (i 3).isLt
  rw [val_main_v22_apply]
  unfold sTab
  rw [coe_sum]
  refine Finset.sum_congr rfl fun d _ => ?_
  rw [v17_eq hp, v19_eq hp, mul_comm, ← EReal.coe_mul]
  refine congrArg _ (congrArg₂ (· * ·) ?_ ?_)
  · unfold krOf
    refine congrArg₂ pr ?_ ?_
    · show (i 0).val * 8192 + (i 3).val = R / 8192 * 8192 + (i 3).val % 8192
      omega
    · show 4096 + ((i 1).val * 64 + d.val) = 4096 + C / 128 * 128 + (64 * c.val + d.val)
      omega
  · unfold qrOf
    refine congrArg₂ pr hR ?_
    show 3072 + ((i 1).val * 64 + d.val) = 3072 + C / 128 * 128 + (64 * c.val + d.val)
    omega

omit hp in
theorem ofBits_two : Ideal.ofBits .f32 0x40000000#32 = ((2 : ℝ) : EReal) := by
  simp [Ideal.ofBits, Ideal.ieee]
  rw [← EReal.coe_mul]
  norm_num

omit hp in
theorem v24_eq (i : S2x16x8192x8192.Idx) : val_main_v24 (F := Ideal) i = ((Real.log 2 : ℝ) : EReal) := by
  rw [val_main_v24_apply, val_main_v23_apply, val_main_cst_2_apply]
  show Ideal.log (Ideal.ofBits .f32 0x40000000#32) = _
  rw [ofBits_two, Ideal.log_coe, if_neg (by norm_num)]

theorem v25_eq {R C : ℕ} {c : Fin 2} (i : S2x16x8192x8192.Idx) (h : At (i 0).val (i 1).val (i 2).val R C c) :
    val_main_v25 (F := Ideal) x0 i = ((sTab (krOf pr R C) (qrOf pr R C) c (i 3).val : ℝ) : EReal) * ((Real.log 2 : ℝ) : EReal) := by
  rw [val_main_v25_apply, v24_eq, v22_eq hp i h]
  rfl

/-- The row's maximum is a real number. -/
theorem v28_real {R C : ℕ} {c : Fin 2} (i : S2x16x8192.Idx) (h : At (i 0).val (i 1).val (i 2).val R C c) :
    ∃ M : ℝ, val_main_v28 (F := Ideal) x0 i = (M : EReal) := by
  have hred : S2x16x8192x8192.Reduces [3] S2x16x8192 := by decide
  have hb : Ideal.ofBits .f32 0xFF800000#32 = ⊥ := Cert.KernelIdeal.Attn.ofBits_ninf
  obtain ⟨M, hM⟩ := fold_max_real (by norm_num : 0 < 8192) fun k : Fin 8192 => sTab (krOf pr R C) (qrOf pr R C) c k.val * Real.log 2
  refine ⟨M, ?_⟩
  rw [val_main_v28_apply, val_main_v27_apply, val_main_cst_4_apply]
  unfold val_main_v26
  rw [Host.reduce_eq_fold_single FloatOps.maximumf _ _ _ hred, val_main_cst_3_apply, ← hM]
  have e : (val_main_v25 (F := Ideal) x0 ∘ hred.lift i) = fun k : Fin 8192 => ((sTab (krOf pr R C) (qrOf pr R C) c k.val * Real.log 2 : ℝ) : EReal) := by
    funext k
    rw [EReal.coe_mul]
    exact v25_eq hp (hred.lift i k) h
  rw [e]
  show max (Ideal.ofBits .f32 0xFF800000#32) (Finset.fold max (Ideal.ofBits .f32 0xFF800000#32) _ _) = _
  rw [hb]
  exact max_eq_right bot_le

theorem v36_eq {R C : ℕ} {c : Fin 2} (i : S2x16x8192x8192.Idx) (h : At (i 0).val (i 1).val (i 2).val R C c) :
    val_main_v36 (F := Ideal) x0 i = ((Real.rpow 2 (sTab (krOf pr R C) (qrOf pr R C) c (i 3).val) / wsum (sTab (krOf pr R C) (qrOf pr R C) c) : ℝ) : EReal) := by
  obtain ⟨M, hM⟩ := v28_real hp (idx_main_v29 (idx_main_v30 i)) h
  have e32 : ∀ j : S2x16x8192x8192.Idx, (j 0).val = (i 0).val → (j 1).val = (i 1).val → (j 2).val = (i 2).val →
      val_main_v32 (F := Ideal) x0 j = Ideal.exp (((sTab (krOf pr R C) (qrOf pr R C) c (j 3).val : ℝ) : EReal) * ((Real.log 2 : ℝ) : EReal) - (M : EReal)) := by
    intro j h0 h1 h2
    rw [val_main_v32_apply, val_main_v31_apply, v25_eq hp j (by rw [h0, h1, h2]; exact h), val_main_v30_apply, val_main_v29_apply,
      show idx_main_v29 (idx_main_v30 j) = idx_main_v29 (idx_main_v30 i) from funext fun a => Fin.ext (by
        match a with
        | ⟨0, _⟩ => exact h0
        | ⟨1, _⟩ => exact h1
        | ⟨2, _⟩ => exact h2), hM]
    rfl
  rw [val_main_v36_apply, val_main_v35_apply, val_main_v34_apply, val_main_v33_apply, val_main_cst_5_apply, e32 i rfl rfl rfl]
  have es : ∀ k : Fin 8192, val_main_v32 (F := Ideal) x0 (idx_main_v33 (idx_main_v34 (idx_main_v35 i)) k)
      = Ideal.exp (((sTab (krOf pr R C) (qrOf pr R C) c k.val : ℝ) : EReal) * ((Real.log 2 : ℝ) : EReal) - (M : EReal)) := fun k => e32 _ rfl rfl rfl
  simp only [es]
  rw [show (FloatOps.ofBits (F := Ideal) .f32 0x00000000#32 : EReal) = 0 from Ideal.ofBits_zero_f32]
  exact soft_eq (sTab (krOf pr R C) (qrOf pr R C) c) M (i 3)

/-! ## The two components' difference -/

omit hp in
theorem idx37_eq (j : S2x8x2x8192x8192.Idx) : (idx_main_v37 j 0).val = (j 0).val ∧ (idx_main_v37 j 1).val = 2 * (j 1).val + (j 2).val
    ∧ (idx_main_v37 j 2).val = (j 3).val ∧ (idx_main_v37 j 3).val = (j 4).val := by
  have h0 : (j 0).val < 2 := (j 0).isLt
  have h1 : (j 1).val < 8 := (j 1).isLt
  have h2 : (j 2).val < 2 := (j 2).isLt
  have h3 : (j 3).val < 8192 := (j 3).isLt
  have h4 : (j 4).val < 8192 := (j 4).isLt
  refine ⟨?_, ?_, ?_, ?_⟩
  · show (((((j 0).val * 8 + (j 1).val) * 2 + (j 2).val) * 8192 + (j 3).val) * 8192 + (j 4).val) / 1073741824 = _
    omega
  · show (((((j 0).val * 8 + (j 1).val) * 2 + (j 2).val) * 8192 + (j 3).val) * 8192 + (j 4).val) / 67108864 % 16 = _
    omega
  · show (((((j 0).val * 8 + (j 1).val) * 2 + (j 2).val) * 8192 + (j 3).val) * 8192 + (j 4).val) / 8192 % 8192 = _
    omega
  · show (((((j 0).val * 8 + (j 1).val) * 2 + (j 2).val) * 8192 + (j 3).val) * 8192 + (j 4).val) % 8192 = _
    omega

/-- The weight of key `i 3` in component `c`, from an index of the scores split by component. -/
theorem v37_eq {R C : ℕ} {c : Fin 2} (j : S2x8x2x8192x8192.Idx) (hR : (j 0).val * 8192 + (j 3).val = R) (hC : (j 1).val = C / 128) (hc : (j 2).val = c.val) :
    val_main_v37 (F := Ideal) x0 j = ((Real.rpow 2 (sTab (krOf pr R C) (qrOf pr R C) c (j 4).val) / wsum (sTab (krOf pr R C) (qrOf pr R C) c) : ℝ) : EReal) := by
  obtain ⟨e0, e1, e2, e3⟩ := idx37_eq j
  have h3 : (j 3).val < 8192 := (j 3).isLt
  rw [val_main_v37_apply, v36_eq hp (idx_main_v37 j) (R := R) (C := C) (c := c) ⟨by rw [e0, e2, hR], by rw [e2]; exact h3, by rw [e1, hC, hc]⟩, e3]

omit hp in
theorem split_eq (i : S2x8x8192x8192.Idx) : ((((i 0).val * 8 + (i 1).val) * 8192 + (i 2).val) * 8192 + (i 3).val) / 536870912 = (i 0).val
    ∧ ((((i 0).val * 8 + (i 1).val) * 8192 + (i 2).val) * 8192 + (i 3).val) / 67108864 % 8 = (i 1).val
    ∧ ((((i 0).val * 8 + (i 1).val) * 8192 + (i 2).val) * 8192 + (i 3).val) / 8192 % 8192 = (i 2).val
    ∧ ((((i 0).val * 8 + (i 1).val) * 8192 + (i 2).val) * 8192 + (i 3).val) % 8192 = (i 3).val := by
  have h0 : (i 0).val < 2 := (i 0).isLt
  have h1 : (i 1).val < 8 := (i 1).isLt
  have h2 : (i 2).val < 8192 := (i 2).isLt
  have h3 : (i 3).val < 8192 := (i 3).isLt
  refine ⟨?_, ?_, ?_, ?_⟩ <;> omega

theorem v39_eq {R C : ℕ} (i : S2x8x8192x8192.Idx) (hR : (i 0).val * 8192 + (i 2).val = R) (hC : (i 1).val = C / 128) :
    val_main_v39 (F := Ideal) x0 i = ((Real.rpow 2 (sTab (krOf pr R C) (qrOf pr R C) 0 (i 3).val) / wsum (sTab (krOf pr R C) (qrOf pr R C) 0) : ℝ) : EReal) := by
  obtain ⟨e0, e1, e2, e3⟩ := split_eq i
  rw [val_main_v39_apply, val_main_v38_apply]
  refine (v37_eq hp (idx_main_v38 (idx_main_v39 i)) (R := R) (C := C) (c := 0) ?_ (e1.trans hC) rfl).trans ?_
  · exact (congrArg₂ (fun a b => a * 8192 + b) e0 e2).trans hR
  · exact congrArg (fun n : ℕ => ((Real.rpow 2 (sTab (krOf pr R C) (qrOf pr R C) 0 n) / wsum (sTab (krOf pr R C) (qrOf pr R C) 0) : ℝ) : EReal)) e3

theorem v41_eq {R C : ℕ} (i : S2x8x8192x8192.Idx) (hR : (i 0).val * 8192 + (i 2).val = R) (hC : (i 1).val = C / 128) :
    val_main_v41 (F := Ideal) x0 i = ((Real.rpow 2 (sTab (krOf pr R C) (qrOf pr R C) 1 (i 3).val) / wsum (sTab (krOf pr R C) (qrOf pr R C) 1) : ℝ) : EReal) := by
  obtain ⟨e0, e1, e2, e3⟩ := split_eq i
  rw [val_main_v41_apply, val_main_v40_apply]
  refine (v37_eq hp (idx_main_v40 (idx_main_v41 i)) (R := R) (C := C) (c := 1) ?_ (e1.trans hC) rfl).trans ?_
  · exact (congrArg₂ (fun a b => a * 8192 + b) e0 e2).trans hR
  · exact congrArg (fun n : ℕ => ((Real.rpow 2 (sTab (krOf pr R C) (qrOf pr R C) 1 n) / wsum (sTab (krOf pr R C) (qrOf pr R C) 1) : ℝ) : EReal)) e3

/-! ## The scalar -/

omit hp in
theorem sum64 (f : S64.Idx → EReal) : ∑ j : S64.Idx, f j = ∑ d : Fin 64, f (ValueIdx.ix1 d) :=
  Fintype.sum_equiv ⟨fun j => (j 0 : Fin 64), fun d => ValueIdx.ix1 d, fun j => (ValueIdx.eq_ix1 j).symm, fun _ => rfl⟩ _ _ fun j => congrArg f (ValueIdx.eq_ix1 j)

omit hp in
theorem lam_eq (i : S_.Idx) : val_main_v15 (F := Ideal) x1 x2 x3 x4 i = lamOf x1 x2 x3 x4 := by
  rw [val_main_v15_apply, val_main_v14_apply, val_main_v8_apply, val_main_v13_apply, val_main_v7_apply, val_main_v12_apply, val_main_cst_apply, val_main_cst_0_apply,
    val_main_cst_1_apply, sum64, sum64]
  have e (y : ℕ) (hy : y < 64) : (idx_main_v4 (ValueIdx.ix1 ⟨y, hy⟩ : S64.Idx)) = ix2 (0 : Fin 1) (⟨y, hy⟩ : Fin 64) := funext fun a => Fin.ext (by
    match a with
    | ⟨0, _⟩ => rfl
    | ⟨1, _⟩ => exact Nat.mod_eq_of_lt hy)
  have e1 : ∀ d : Fin 64, val_main_v6 (F := Ideal) x1 x2 (ValueIdx.ix1 d) = x1 (ix2 0 d) * x2 (ix2 0 d) := fun d => by
    rw [val_main_v6_apply, val_main_v4_apply, val_main_v5_apply]
    show x1 (idx_main_v4 _) * x2 (idx_main_v4 _) = _
    rw [e d.val d.isLt]
  have e2 : ∀ d : Fin 64, val_main_v11 (F := Ideal) x3 x4 (ValueIdx.ix1 d) = x3 (ix2 0 d) * x4 (ix2 0 d) := fun d => by
    rw [val_main_v11_apply, val_main_v9_apply, val_main_v10_apply]
    show x3 (idx_main_v4 _) * x4 (idx_main_v4 _) = _
    rw [e d.val d.isLt]
  simp only [e1, e2]
  rw [show (FloatOps.ofBits (F := Ideal) .f32 0x00000000#32 : EReal) = 0 from Ideal.ofBits_zero_f32, zero_add, zero_add]
  rfl

/-! ## The result -/

theorem v45_eq {R C : ℕ} {lam : ℝ} (hl : lamOf x1 x2 x3 x4 = (lam : EReal)) (i : S2x8x8192x128.Idx) (hR : (i 0).val * 8192 + (i 2).val = R) (hC : (i 1).val = C / 128) :
    val_main_v45 (F := Ideal) x0 x1 x2 x3 x4 i = (mean (krOf pr R C) (vrOf pr R C) (qrOf pr R C) 0 (i 3) : EReal) - (lam : EReal) * (mean (krOf pr R C) (vrOf pr R C) (qrOf pr R C) 1 (i 3) : EReal) := by
  have h2 : (i 2).val < 8192 := (i 2).isLt
  rw [val_main_v45_apply]
  refine Eq.trans ?_ (diff_eq (sTab (krOf pr R C) (qrOf pr R C) 0) (sTab (krOf pr R C) (qrOf pr R C) 1) (fun k => vrOf pr R C (k % 8192) (i 3)) lam)
  refine Finset.sum_congr rfl fun k _ => ?_
  rw [val_main_v44_apply, val_main_v43_apply, val_main_v42_apply, lam_eq, hl, v39_eq hp (R := R) (C := C) (lidx_main_v45 i k) hR hC, v41_eq hp (R := R) (C := C) (lidx_main_v45 i k) hR hC, v21_eq hp]
  refine congrArg (fun x : ℝ => (((Real.rpow 2 (sTab (krOf pr R C) (qrOf pr R C) 0 k.val) / wsum (sTab (krOf pr R C) (qrOf pr R C) 0) : ℝ) : EReal)
    - (lam : EReal) * ((Real.rpow 2 (sTab (krOf pr R C) (qrOf pr R C) 1 k.val) / wsum (sTab (krOf pr R C) (qrOf pr R C) 1) : ℝ) : EReal)) * (x : EReal)) ?_
  show pr ((i 0).val * 8192 + k.val) (5120 + ((i 1).val * 128 + (i 3).val)) = vrOf pr R C (k.val % 8192) (i 3)
  unfold vrOf
  refine congrArg₂ pr ?_ ?_
  · have hk := k.isLt
    omega
  · rw [hC]; omega

theorem v64_eq {lam : ℝ} (hl : lamOf x1 x2 x3 x4 = (lam : EReal)) (i : S16384x1024.Idx) :
    val_main_v64 (F := Ideal) x0 x1 x2 x3 x4 x5 i = outAt pr (lamOf x1 x2 x3 x4) (fun e => x5 (ix2 0 e)) (i 0).val (i 1).val := by
  have h0 : (i 0).val < 16384 := (i 0).isLt
  have h1 : (i 1).val < 1024 := (i 1).isLt
  rw [val_main_v64_apply, val_main_v63_apply]
  generalize hj : idx_main_v63 i = j
  generalize hRR : (i 0).val = R at *
  generalize hCC : (i 1).val = C at *
  have j0 : (j 0).val = R / 8192 := by rw [← hj, ← hRR]; show ((i 0).val * 1024 + (i 1).val) / 8388608 = _; omega
  have j1 : (j 1).val = R % 8192 := by rw [← hj, ← hRR]; show ((i 0).val * 1024 + (i 1).val) / 1024 % 8192 = _; omega
  have j2 : (j 2).val = C / 128 := by rw [← hj, ← hCC]; show ((i 0).val * 1024 + (i 1).val) / 128 % 8 = _; omega
  have j3 : j 3 = (⟨C % 128, Nat.mod_lt _ (by decide)⟩ : Fin 128) := Fin.ext (by rw [← hj, ← hCC]; show ((i 0).val * 1024 + (i 1).val) % 128 = (i 1).val % 128; omega)
  have hR : (j 0).val * 8192 + (j 1).val = R := by omega
  have e46 : ∀ k : S2x8192x8x128.Idx, (k 0).val = (j 0).val → (k 1).val = (j 1).val → (k 2).val = (j 2).val → val_main_v46 (F := Ideal) x0 x1 x2 x3 x4 k
      = (mean (krOf pr R C) (vrOf pr R C) (qrOf pr R C) 0 (k 3) : EReal) - (lam : EReal) * (mean (krOf pr R C) (vrOf pr R C) (qrOf pr R C) 1 (k 3) : EReal) := by
    intro k k0 k1 k2
    rw [val_main_v46_apply]
    exact v45_eq x1 x2 x3 x4 hp hl (idx_main_v46 k) ((congrArg₂ (fun a b => a * 8192 + b) k0 k1).trans hR) (k2.trans j2)
  have es : ∀ e : Fin 128, val_main_v47 (F := Ideal) x0 x1 x2 x3 x4 (idx_main_v48 (idx_main_v49 (idx_main_v55 j)) e)
      = ((mean (krOf pr R C) (vrOf pr R C) (qrOf pr R C) 0 e : EReal) - (lam : EReal) * (mean (krOf pr R C) (vrOf pr R C) (qrOf pr R C) 1 e : EReal))
        * ((mean (krOf pr R C) (vrOf pr R C) (qrOf pr R C) 0 e : EReal) - (lam : EReal) * (mean (krOf pr R C) (vrOf pr R C) (qrOf pr R C) 1 e : EReal)) := by
    intro e
    rw [val_main_v47_apply, e46 (idx_main_v48 (idx_main_v49 (idx_main_v55 j)) e) rfl rfl rfl]
    rfl
  rw [val_main_v62_apply, val_main_v61_apply, val_main_cst_9_apply, val_main_v60_apply, val_main_v59_apply, val_main_v58_apply, val_main_v57_apply, val_main_v56_apply,
    val_main_v55_apply, val_main_v54_apply, val_main_v53_apply, val_main_v52_apply, val_main_cst_8_apply, val_main_v51_apply, val_main_v50_apply, val_main_cst_7_apply,
    val_main_v49_apply, val_main_v48_apply, val_main_cst_6_apply, e46 j rfl rfl rfl]
  simp only [es]
  rw [show (FloatOps.ofBits (F := Ideal) .f32 0x00000000#32 : EReal) = 0 from Ideal.ofBits_zero_f32, zero_add, hl]
  have eg : idx_main_v57 (idx_main_v58 (idx_main_v59 j)) = ix2 (0 : Fin 1) (j 3) := funext fun a => Fin.ext (by
    match a with
    | ⟨0, _⟩ => rfl
    | ⟨1, _⟩ => exact Nat.mod_eq_of_lt (j 3).isLt)
  rw [eg, j3]
  rfl

end Cert.ReferenceIdeal.Attn

end
-- ==== Proof.Alg.lean ====
/- Over the extended reals the call and its reference leave the same result, whenever the inputs are finite. -/
module

public import proofs.«01_k».proof.Defs
public import proofs.«01_k».proof.Proof.Frames
public import proofs.«01_k».proof.Proof.RVal

@[expose] public section

set_option maxRecDepth 16384

noncomputable section

namespace Cert.Attn

open Idealize.ShloMosaic Idealize.ShloMosaic.TcCoe Idealize.SL.Sem
open Cert.KernelIdeal.Attn (lamOf outAt)

theorem factsPre : Cert.Pre_finite_inputs.Facts := ⟨by decide, by decide, by decide⟩

theorem ofBits_inf : Ideal.ofBits .f32 0x7F800000#32 = ⊤ := by simp [Ideal.ofBits, Ideal.ieee]

/-- An extended real of absolute value below infinity is a real. -/
theorem real_of_lt (x : EReal) (h : Ideal.cmp .olt (max x (-x)) (Ideal.ofBits .f32 0x7F800000#32) = 1#1) : ((x.toReal : ℝ) : EReal) = x := by
  rw [ofBits_inf] at h
  have hlt : max x (-x) < ⊤ := by
    by_contra hn
    simp [Ideal.cmp, hn] at h
  rw [max_lt_iff] at hlt
  refine EReal.coe_toReal (ne_of_lt hlt.1) fun e => ?_
  rw [e] at hlt
  exact absurd hlt.2 (by simp)

theorem vec_real {x : Vec Ideal Cert.Pre_finite_inputs.S1x64 .f32}
    (h : cmpf .olt (Host.absf x) (broadcastInDim Cert.Pre_finite_inputs.S1x64 ![] factsPre.bcast_S_S1x64 (constant (F := Ideal) Cert.Pre_finite_inputs.S_ .f32 0x7F800000#32)) = fun _ => 1#1)
    (i : Cert.Pre_finite_inputs.S1x64.Idx) : ((x i : EReal).toReal : EReal) = x i :=
  real_of_lt (x i) (congrFun h i)

theorem const_real : ∃ r : ℝ, Ideal.ofBits .f32 0x3E4CCCCD#32 = (r : EReal) := by
  refine ⟨13421773 / 67108864, ?_⟩
  simp [Ideal.ofBits, Ideal.ieee]
  rw [← EReal.coe_mul]
  norm_num

/-- The scalar is a real when the four vectors are. -/
theorem lam_real (a1 a2 a3 a4 : Vec Ideal Cert.Pre_finite_inputs.S1x64 .f32) (h1 : ∀ i, ((a1 i : EReal).toReal : EReal) = a1 i) (h2 : ∀ i, ((a2 i : EReal).toReal : EReal) = a2 i)
    (h3 : ∀ i, ((a3 i : EReal).toReal : EReal) = a3 i) (h4 : ∀ i, ((a4 i : EReal).toReal : EReal) = a4 i) : ∃ lam : ℝ, lamOf a1 a2 a3 a4 = (lam : EReal) := by
  obtain ⟨r, hr⟩ := const_real
  have key : ∀ (a b : Vec Ideal Cert.Pre_finite_inputs.S1x64 .f32), (∀ i, ((a i : EReal).toReal : EReal) = a i) → (∀ i, ((b i : EReal).toReal : EReal) = b i) →
      ∃ e : ℝ, Ideal.exp (∑ d : Fin 64, a (ix2 0 d) * b (ix2 0 d)) = (e : EReal) := by
    intro a b ha hb
    refine ⟨Real.exp (∑ d : Fin 64, (a (ix2 0 d) : EReal).toReal * (b (ix2 0 d) : EReal).toReal), ?_⟩
    rw [← Ideal.exp_coe, coe_sum]
    refine congrArg _ (Finset.sum_congr rfl fun d _ => ?_)
    rw [EReal.coe_mul, ha, hb]
  obtain ⟨e1, he1⟩ := key a1 a2 h1 h2
  obtain ⟨e2, he2⟩ := key a3 a4 h3 h4
  refine ⟨e1 - e2 + r, ?_⟩
  unfold lamOf
  rw [he1, he2, hr, ← EReal.coe_sub, ← EReal.coe_add]

/-- The projections as a table of reals. -/
def table (x : Vec Ideal Cert.Pre_finite_inputs.S16384x10240 .bf16) (a b : ℕ) : ℝ :=
  if h : a < 16384 ∧ b < 10240 then (x (ix2 ⟨a, h.1⟩ ⟨b, h.2⟩) : EReal).toReal else 0

theorem table_eq (x : Vec Ideal Cert.Pre_finite_inputs.S16384x10240 .bf16)
    (h : cmpf .olt (Host.absf (extf .f32 x factsPre.bitsLt_bf16_f32)) (broadcastInDim Cert.Pre_finite_inputs.S16384x10240 ![] factsPre.bcast_S_S16384x10240 (constant (F := Ideal) Cert.Pre_finite_inputs.S_ .f32 0x7F800000#32)) = fun _ => 1#1)
    (a : Fin 16384) (b : Fin 10240) : (x (ix2 a b) : EReal) = (table x a.val b.val : EReal) := by
  unfold table
  rw [dif_pos ⟨a.isLt, b.isLt⟩]
  exact (real_of_lt (x (ix2 a b)) (congrFun h (ix2 a b))).symm

theorem algebraic : Cert.algebraic_KernelIdeal_ReferenceIdeal_pre_finite_inputs (hKernelIdeal := Cert.KernelIdeal.Gen.facts) (hReferenceIdeal := Cert.ReferenceIdeal.Gen.facts) (hPre_finite_inputs := factsPre) := by
  pair_intro
  · run_from Cert.KernelIdeal.Attn.run m g
  · run_from Cert.ReferenceIdeal.Value.run m' g'
    obtain ⟨p0, p1, p2, p3, p4⟩ := hpre c
    obtain ⟨e0, e1, e2, e3, e4, e5⟩ := hagree c
    obtain ⟨lam, hl⟩ := lam_real _ _ _ _ (vec_real p1) (vec_real p2) (vec_real p3) (vec_real p4)
    have hp := table_eq _ p0
    refine Eq.trans ?_ (Cert.KernelIdeal.Attn.arr_eq m _ c hp).symm
    rw [Cert.ReferenceIdeal.Read.val_main_v64_eq m' c, e0, e1, e2, e3, e4, e5]
    funext i
    refine Cert.ReferenceIdeal.Attn.v64_eq _ _ _ _ _ (fun j => ?_) hl i
    rw [← hp (j 0) (j 1), eq_ix2 j]
    rfl

end Cert.Attn

end
-- ==== Proof.FfnPay.lean ====
/- What one grid point of the feed-forward call computes, over the extended reals, read at an index. -/
module

public import proofs.«01_k».proof.Proof.Gen.FfnIdeal.Value
public import Idealize.ShloMosaic.Lib.Pointwise
public import Idealize.ShloMosaic.Lib.ValueIdx
public import Idealize.ShloMosaic.Lib.IdealHost
public import Idealize.ShloMosaic.Lib.Pipeline.ValueKit.Acc

@[expose] public section

set_option maxRecDepth 16384

noncomputable section

namespace Cert.FfnIdeal.Ffn

open Cert.FfnIdeal Cert.FfnIdeal.Gen Idealize.ShloMosaic Idealize.ShloMosaic.TcCoe Idealize.SL.Sem

open scoped BigOperators

/-- A normalised, scaled and shifted entry of a row. -/
def modNorm (x g sc sh : Fin 2048 → EReal) (k : Fin 2048) : EReal :=
  x k * Ideal.rsqrt (Ideal.div (∑ j, x j * x j) (Ideal.ofBits .f32 0x45000000#32) + Ideal.ofBits .f32 0x358637BD#32) * g k * (Ideal.ofBits .f32 0x3F800000#32 + sc k) + sh k

/-- One hidden unit: the gate's product, the sigmoid of it, and the other product. -/
def glu (h wg wu : Fin 2048 → EReal) : EReal :=
  (∑ k, h k * wg k) * Ideal.logistic (∑ k, h k * wg k) * ∑ k, h k * wu k

/-- The batch a row belongs to. -/
def batch (R : Fin 16384) : Fin 2 := ⟨R.val / 8192, by omega⟩

/-- The normalised row. -/
def hid (x0 : Vec Ideal S16384x2048 .f32) (x1 : Vec Ideal S2x6x2048 .f32) (x2 : Vec Ideal S1x2048 .f32) (R : Fin 16384) : Fin 2048 → EReal :=
  modNorm (fun j => x0 (ix2 R j)) (fun j => x2 (ix2 0 j)) (fun j => x1 (ix3 (batch R) 4 j)) (fun j => x1 (ix3 (batch R) 3 j))

/-- What one hidden unit gives to one output entry. -/
def unit (h : Fin 2048 → EReal) (x3 x4 : Vec Ideal S1x2048x5632 .f32) (x5 : Vec Ideal S1x5632x2048 .f32) (n : Fin 2048) (q : Fin 5632) : EReal :=
  glu h (fun k => x3 (ix3 0 k q)) (fun k => x4 (ix3 0 k q)) * x5 (ix3 0 q n)

/-- The same, numbered by the naturals: nothing past the last. -/
def unitN (h : Fin 2048 → EReal) (x3 x4 : Vec Ideal S1x2048x5632 .f32) (x5 : Vec Ideal S1x5632x2048 .f32) (n : Fin 2048) (q : ℕ) : EReal :=
  if hq : q < 5632 then unit h x3 x4 x5 n ⟨q, hq⟩ else 0

/-- An entry of the feed-forward part's result. -/
def ffnOut (x0 : Vec Ideal S16384x2048 .f32) (x1 : Vec Ideal S2x6x2048 .f32) (x2 : Vec Ideal S1x2048 .f32) (x3 x4 : Vec Ideal S1x2048x5632 .f32) (x5 : Vec Ideal S1x5632x2048 .f32) (R : Fin 16384) (n : Fin 2048) : EReal :=
  x0 (ix2 R n) + x1 (ix3 (batch R) 5 n) * ∑ q, unit (hid x0 x1 x2 R) x3 x4 x5 n q

/-- What 256 hidden units give to one output entry. -/
def units (h : Fin 2048 → EReal) (wg wu : Vec Ideal S2048x256 .bf16) (wd : Vec Ideal S256x2048 .bf16) (n : Fin 2048) : EReal :=
  ∑ q : Fin 256, glu h (fun k => wg (ix2 k q)) (fun k => wu (ix2 k q)) * wd (ix2 q n)

theorem pay4_apply (x : Vec Ideal S256x2048 .f32) (g : Vec Ideal S1x2048 .f32) (sh sc : Vec Ideal S1x1x2048 .f32) (r : Fin 256) (k : Fin 2048) :
    k0_pay4 x g sh sc (ix2 r k) = modNorm (fun j => x (ix2 r j)) (fun j => g (ix2 0 j)) (fun j => sc (ix3 0 0 j)) (fun j => sh (ix3 0 0 j)) k := by
  unfold k0_pay4 modNorm
  pointwise

theorem pay14_eq (x : Vec Ideal S256x2048 .f32) (g : Vec Ideal S1x2048 .f32) (sh sc : Vec Ideal S1x1x2048 .f32) :
    k0_pay14 x (k0_pay9 g) (k0_pay10 sh) (k0_pay11 sc) (k0_pay12 x) k0_pay13 = k0_pay4 x g sh sc := rfl

theorem pay15_apply (x : Vec Ideal S256x2048 .f32) (g : Vec Ideal S1x2048 .f32) (sh sc : Vec Ideal S1x1x2048 .f32) (y : S256x2048.Idx) :
    k0_pay15 x (k0_pay9 g) (k0_pay10 sh) (k0_pay11 sc) (k0_pay12 x) k0_pay13 y = k0_pay4 x g sh sc y := by
  unfold k0_pay15
  rw [shapeCast_self]
  rfl

theorem pay5_apply (x : Vec Ideal S256x2048 .f32) (g : Vec Ideal S1x2048 .f32) (sh sc : Vec Ideal S1x1x2048 .f32) (y : S256x2048.Idx) :
    k0_pay5 x g sh sc y = k0_pay4 x g sh sc y := by
  unfold k0_pay5
  rw [shapeCast_self]

theorem pay8_apply (h : FVec Ideal S256x2048 .bf16) (x : Vec Ideal S256x2048 .f32) (g : Vec Ideal S1x2048 .f32) (sh sc : Vec Ideal S1x1x2048 .f32) (hh : k0_pay4 x g sh sc = h)
    (wu wg : Vec Ideal S2048x256 .bf16) (wd : Vec Ideal S256x2048 .bf16) (wg' wu' : Vec Ideal S2048x256 .bf16) (wd' : Vec Ideal S256x2048 .bf16) (r : Fin 256) (n : Fin 2048) :
    k0_pay8 h (k0_pay6 x g sh sc wu) (k0_pay7 x g sh sc wg) wd wg' wu' wd' (ix2 r n)
      = units (fun k => h (ix2 r k)) wg wu wd n + units (fun k => h (ix2 r k)) wg' wu' wd' n := by
  unfold k0_pay8 k0_pay6 k0_pay7 units glu
  rw [hh]
  pointwise

theorem pay1_apply (h : FVec Ideal S256x2048 .bf16) (x : Vec Ideal S256x2048 .f32) (g sh sc : FVec Ideal S1x2048 .f32) (s c : FVec Ideal S256x1 .f32) (hh : k0_pay14 x g sh sc s c = h)
    (wg wu : Vec Ideal S2048x256 .bf16) (wd : Vec Ideal S256x2048 .bf16) (wg' wu' : Vec Ideal S2048x256 .bf16) (wd' : Vec Ideal S256x2048 .bf16) (r : Fin 256) (n : Fin 2048) :
    k0_pay1 (k0_pay16 x g sh sc s c wg wu wd) (k0_pay17 x g sh sc s c wg' wu') wd' (ix2 r n)
      = units (fun k => h (ix2 r k)) wg wu wd n + units (fun k => h (ix2 r k)) wg' wu' wd' n := by
  unfold k0_pay1 k0_pay16 k0_pay17 units glu
  rw [hh]
  pointwise

theorem pay2_apply (a : Vec Ideal S512x2048 .f32) (h : Vec Ideal S512x2048 .bf16)
    (wg wu : Vec Ideal S2048x256 .bf16) (wd : Vec Ideal S256x2048 .bf16) (wg' wu' : Vec Ideal S2048x256 .bf16) (wd' : Vec Ideal S256x2048 .bf16) (r : Fin 512) (n : Fin 2048) :
    k0_pay2 a h wg wu wd wg' wu' wd' (ix2 r n)
      = a (ix2 r n) + (units (fun k => h (ix2 r k)) wg wu wd n + units (fun k => h (ix2 r k)) wg' wu' wd' n) := by
  unfold k0_pay2 units glu
  pointwise

theorem pay3_apply (x : Vec Ideal S512x2048 .f32) (g : Vec Ideal S1x1x2048 .f32) (a : Vec Ideal S512x2048 .f32) (r : Fin 512) (n : Fin 2048) :
    k0_pay3 x g a (ix2 r n) = x (ix2 r n) + g (ix3 0 0 n) * a (ix2 r n) := by
  unfold k0_pay3
  pointwise

/-- What a block of 512 hidden units gives to one output entry. -/
def blockSum (h : Fin 2048 → EReal) (wg wu : Vec Ideal S2048x512 .bf16) (wd : Vec Ideal S512x2048 .bf16) (n : Fin 2048) : EReal :=
  ∑ q : Fin 512, glu h (fun k => wg (ix2 k q)) (fun k => wu (ix2 k q)) * wd (ix2 q n)

theorem units_add (h : Fin 2048 → EReal) (wg wu : Vec Ideal S2048x512 .bf16) (wd : Vec Ideal S512x2048 .bf16) (n : Fin 2048) :
    units h (View.ld wg (Rect.unit ![0, 0] ![2048, 256] inb_S2048x512_S2048x256_0_0)) (View.ld wu (Rect.unit ![0, 0] ![2048, 256] inb_S2048x512_S2048x256_0_0))
        (View.ld wd (Rect.unit ![0, 0] ![256, 2048] inb_S512x2048_S256x2048_0_0)) n
      + units h (View.ld wg (Rect.unit ![0, 256] ![2048, 256] inb_S2048x512_S2048x256_0_256)) (View.ld wu (Rect.unit ![0, 256] ![2048, 256] inb_S2048x512_S2048x256_0_256))
        (View.ld wd (Rect.unit ![256, 0] ![256, 2048] inb_S512x2048_S256x2048_256_0)) n
      = blockSum h wg wu wd n := by
  unfold units blockSum
  refine Eq.symm ((Fin.sum_univ_add (a := 256) (b := 256) _).trans (congrArg₂ (· + ·) (Finset.sum_congr rfl fun q _ => ?_) (Finset.sum_congr rfl fun q _ => ?_)))
  · have e1 : ∀ (w : Vec Ideal S2048x512 .bf16) (k : Fin 2048), View.ld w (Rect.unit ![0, 0] ![2048, 256] inb_S2048x512_S2048x256_0_0) (ix2 k q) = w (ix2 k (Fin.castAdd 256 q)) := fun w k =>
      congrArg w (funext fun a => Fin.ext (by
        match a with
        | ⟨0, _⟩ => show 0 + 1 * k.val = k.val; omega
        | ⟨1, _⟩ => show 0 + 1 * q.val = q.val; omega))
    have e2 : View.ld wd (Rect.unit ![0, 0] ![256, 2048] inb_S512x2048_S256x2048_0_0) (ix2 q n) = wd (ix2 (Fin.castAdd 256 q) n) :=
      congrArg wd (funext fun a => Fin.ext (by
        match a with
        | ⟨0, _⟩ => show 0 + 1 * q.val = q.val; omega
        | ⟨1, _⟩ => show 0 + 1 * n.val = n.val; omega))
    rw [e2, funext (e1 wg), funext (e1 wu)]
  · have e1 : ∀ (w : Vec Ideal S2048x512 .bf16) (k : Fin 2048), View.ld w (Rect.unit ![0, 256] ![2048, 256] inb_S2048x512_S2048x256_0_256) (ix2 k q) = w (ix2 k (Fin.natAdd 256 q)) := fun w k =>
      congrArg w (funext fun a => Fin.ext (by
        match a with
        | ⟨0, _⟩ => show 0 + 1 * k.val = k.val; omega
        | ⟨1, _⟩ => show 256 + 1 * q.val = 256 + q.val; omega))
    have e2 : View.ld wd (Rect.unit ![256, 0] ![256, 2048] inb_S512x2048_S256x2048_256_0) (ix2 q n) = wd (ix2 (Fin.natAdd 256 q) n) :=
      congrArg wd (funext fun a => Fin.ext (by
        match a with
        | ⟨0, _⟩ => show 256 + 1 * q.val = 256 + q.val; omega
        | ⟨1, _⟩ => show 0 + 1 * n.val = n.val; omega))
    rw [e2, funext (e1 wg), funext (e1 wu)]

end Cert.FfnIdeal.Ffn

end
-- ==== Proof.FfnVal.lean ====
/- The feed-forward call over the extended reals: what its grid points leave, and the array it ends with. -/
module

public import proofs.«01_k».proof.Proof.FfnPay
public import Idealize.ShloMosaic.Lib.Pipeline.ValueKit

@[expose] public section

set_option maxRecDepth 16384

noncomputable section

namespace Cert.FfnIdeal.Ffn

open Cert.FfnIdeal Cert.FfnIdeal.Gen Cert.FfnIdeal.Value Idealize.ShloMosaic Idealize.ShloMosaic.TcCoe Idealize.SL.Sem

open scoped BigOperators

variable (m : (ℓ : Loc nD τ sig) → Buf (Elt Ideal) ℓ)

/-! ## The blocks -/

def bx (c : Dev nD) (t : Fin cfg0.N) : Vec Ideal S512x2048 .f32 := iblk m c 0 t
def bm (c : Dev nD) (t : Fin cfg0.N) : Vec Ideal S1x6x2048 .f32 := iblk m c 1 t
def bg (c : Dev nD) (t : Fin cfg0.N) : Vec Ideal S1x2048 .f32 := iblk m c 2 t
def bwg (c : Dev nD) (t : Fin cfg0.N) : Vec Ideal S2048x512 .bf16 := iblk m c 3 t
def bwu (c : Dev nD) (t : Fin cfg0.N) : Vec Ideal S2048x512 .bf16 := iblk m c 4 t
def bwd (c : Dev nD) (t : Fin cfg0.N) : Vec Ideal S512x2048 .bf16 := iblk m c 5 t

theorem idx_eq : ∀ t : Fin cfg0.N, win0_0.index t = ![t.val / 11, 0] ∧ win0_1.index t = ![t.val / 11 / 16, 0, 0] ∧ win0_2.index t = ![0, 0]
    ∧ win0_3.index t = ![0, t.val % 11] ∧ win0_4.index t = ![0, t.val % 11] ∧ win0_5.index t = ![t.val % 11, 0] := by decide +kernel

theorem t_lt (t : Fin cfg0.N) : t.val < 352 := t.isLt

theorem bx_apply (c : Dev nD) (t : Fin cfg0.N) (r : Fin 512) (k : Fin 2048) : bx m c t (ix2 r k)
    = m ((c.tc : Thread nD τ).loc main_arg0) (ix2 (⟨t.val / 11 * 512 + r.val, by have := t_lt t; omega⟩ : Fin 16384) k) := by
  unfold bx
  blk_ext [iblk, V, idx_eq t]

theorem bm_apply (c : Dev nD) (t : Fin cfg0.N) (a : Fin 6) (k : Fin 2048) : bm m c t (ix3 0 a k)
    = m ((c.tc : Thread nD τ).loc main_arg1) (ix3 (⟨t.val / 11 / 16, by have := t_lt t; omega⟩ : Fin 2) a k) := by
  unfold bm
  blk_ext [iblk, V, idx_eq t]

theorem bg_blk (c : Dev nD) (t : Fin cfg0.N) (k : Fin 2048) : bg m c t (ix2 0 k) = V m c main_v7 (ix2 0 k) := by
  unfold bg
  blk_ext [iblk, idx_eq t]

theorem bwg_blk (c : Dev nD) (t : Fin cfg0.N) (k : Fin 2048) (q : Fin 512) : bwg m c t (ix2 k q) = V m c main_v2 (ix2 k (⟨t.val % 11 * 512 + q.val, by omega⟩ : Fin 5632)) := by
  unfold bwg
  blk_ext [iblk, idx_eq t]

theorem bwu_blk (c : Dev nD) (t : Fin cfg0.N) (k : Fin 2048) (q : Fin 512) : bwu m c t (ix2 k q) = V m c main_v4 (ix2 k (⟨t.val % 11 * 512 + q.val, by omega⟩ : Fin 5632)) := by
  unfold bwu
  blk_ext [iblk, idx_eq t]

theorem bwd_blk (c : Dev nD) (t : Fin cfg0.N) (q : Fin 512) (n : Fin 2048) : bwd m c t (ix2 q n) = V m c main_v6 (ix2 (⟨t.val % 11 * 512 + q.val, by omega⟩ : Fin 5632) n) := by
  unfold bwd
  blk_ext [iblk, idx_eq t]

theorem bg_apply (c : Dev nD) (t : Fin cfg0.N) (k : Fin 2048) : bg m c t (ix2 0 k) = m ((c.tc : Thread nD τ).loc main_arg2) (ix2 (0 : Fin 1) k) := by
  rw [bg_blk]
  entry_read
  pointwise

theorem bwg_apply (c : Dev nD) (t : Fin cfg0.N) (k : Fin 2048) (q : Fin 512) :
    bwg m c t (ix2 k q) = m ((c.tc : Thread nD τ).loc main_arg3) (ix3 (0 : Fin 1) k (⟨t.val % 11 * 512 + q.val, by omega⟩ : Fin 5632)) := by
  rw [bwg_blk]
  entry_read
  pointwise

theorem bwu_apply (c : Dev nD) (t : Fin cfg0.N) (k : Fin 2048) (q : Fin 512) :
    bwu m c t (ix2 k q) = m ((c.tc : Thread nD τ).loc main_arg4) (ix3 (0 : Fin 1) k (⟨t.val % 11 * 512 + q.val, by omega⟩ : Fin 5632)) := by
  rw [bwu_blk]
  entry_read
  pointwise

theorem bwd_apply (c : Dev nD) (t : Fin cfg0.N) (q : Fin 512) (n : Fin 2048) :
    bwd m c t (ix2 q n) = m ((c.tc : Thread nD τ).loc main_arg5) (ix3 (0 : Fin 1) (⟨t.val % 11 * 512 + q.val, by omega⟩ : Fin 5632) n) := by
  rw [bwd_blk]
  entry_read
  pointwise

/-! ## One point -/

/-- The normalised row of a point's block. -/
def hrow (c : Dev nD) (t : Fin cfg0.N) (r : Fin 512) : Fin 2048 → EReal :=
  modNorm (fun j => bx m c t (ix2 r j)) (fun j => bg m c t (ix2 0 j)) (fun j => bm m c t (ix3 0 4 j)) (fun j => bm m c t (ix3 0 3 j))

theorem ld_mod (x : Vec Ideal S1x6x2048 .f32) (a : ℕ) (ha : a < 6) (hb) (k : Fin 2048) :
    View.ld x (Rect.unit (s := S1x6x2048) ![0, a, 0] ![1, 1, 2048] hb) (ix3 0 0 k) = x (ix3 0 ⟨a, ha⟩ k) :=
  congrArg x (funext fun b => Fin.ext (by
    match b with
    | ⟨0, _⟩ => rfl
    | ⟨1, _⟩ => show a + 1 * 0 = a; omega
    | ⟨2, _⟩ => show 0 + 1 * k.val = k.val; omega))

theorem ld_row (x : Vec Ideal S512x2048 .f32) (o : ℕ) (ho : o + 256 ≤ 512) (hb) (r : Fin 256) (k : Fin 2048) :
    View.ld x (Rect.unit (s := S512x2048) ![o, 0] ![256, 2048] hb) (ix2 r k) = x (ix2 ⟨o + r.val, by omega⟩ k) :=
  congrArg x (funext fun b => Fin.ext (by
    match b with
    | ⟨0, _⟩ => show o + 1 * r.val = o + r.val; omega
    | ⟨1, _⟩ => show 0 + 1 * k.val = k.val; omega))

/-- The normalised rows that a half of a block's rows yields. -/
theorem pay4_rows (c : Dev nD) (t : Fin cfg0.N) (o : ℕ) (ho : o + 256 ≤ 512) (hb h3 h4) (r : Fin 256) (k : Fin 2048) :
    k0_pay4 (View.ld (bx m c t) (Rect.unit (s := S512x2048) ![o, 0] ![256, 2048] hb)) (bg m c t)
        (View.ld (bm m c t) (Rect.unit (s := S1x6x2048) ![0, 3, 0] ![1, 1, 2048] h3)) (View.ld (bm m c t) (Rect.unit (s := S1x6x2048) ![0, 4, 0] ![1, 1, 2048] h4)) (ix2 r k)
      = hrow m c t ⟨o + r.val, by omega⟩ k := by
  rw [pay4_apply, funext (ld_row (bx m c t) o ho hb r), funext (ld_mod (bm m c t) 3 (by omega) h3), funext (ld_mod (bm m c t) 4 (by omega) h4)]
  rfl

/-- The same, at an index of the half. -/
theorem pay4_at (c : Dev nD) (t : Fin cfg0.N) (o : ℕ) (ho : o + 256 ≤ 512) (hb h3 h4) (x : S256x2048.Idx) (y : S512x2048.Idx) (e0 : (y 0).val = o + (x 0).val) (e1 : (y 1).val = (x 1).val) :
    k0_pay4 (View.ld (bx m c t) (Rect.unit (s := S512x2048) ![o, 0] ![256, 2048] hb)) (bg m c t)
        (View.ld (bm m c t) (Rect.unit (s := S1x6x2048) ![0, 3, 0] ![1, 1, 2048] h3)) (View.ld (bm m c t) (Rect.unit (s := S1x6x2048) ![0, 4, 0] ![1, 1, 2048] h4)) x
      = hrow m c t (y 0) (y 1) := by
  rw [ValueIdx.eq_ix2 x]
  refine (pay4_rows m c t o ho hb h3 h4 (x 0) (x 1)).trans ?_
  rw [show (⟨o + (x 0).val, by have : (x 0).val < 256 := (x 0).isLt; omega⟩ : Fin 512) = y 0 from Fin.ext e0.symm, show x 1 = y 1 from Fin.ext e1.symm]

theorem sA0 (c : Dev nD) (t : Fin cfg0.N) (h0 : t.val % 11 = 0) (h1 : ¬1 ≤ t.val % 11) (h2 : ¬t.val % 11 = 10) (y : S512x2048.Idx) :
    (outsAt0 m c t.val t.isLt).2.1 y = hrow m c t (y 0) (y 1) := by
  rw [outsAt0_A m c t h0 h1 h2]
  dsimp only
  frame_out
  canon_tiles x h
  · refine (pay15_apply _ _ _ _ x).trans ?_
    exact pay4_at m c t 256 (by omega) _ _ _ x y h0 h1
  · refine (pay5_apply _ _ _ _ x).trans ?_
    exact pay4_at m c t 0 (by omega) _ _ _ x y (h0.trans (Nat.zero_add _).symm) h1

/-- The row of a half, and its place in the block. -/
theorem hrow_at (c : Dev nD) (t : Fin cfg0.N) (o : ℕ) (ho : o + 256 ≤ 512) (hb h3 h4) (r : Fin 256) (y : Fin 512) (e0 : y.val = o + r.val) :
    (fun k => k0_pay4 (View.ld (bx m c t) (Rect.unit (s := S512x2048) ![o, 0] ![256, 2048] hb)) (bg m c t)
        (View.ld (bm m c t) (Rect.unit (s := S1x6x2048) ![0, 3, 0] ![1, 1, 2048] h3)) (View.ld (bm m c t) (Rect.unit (s := S1x6x2048) ![0, 4, 0] ![1, 1, 2048] h4)) (ix2 r k))
      = hrow m c t y :=
  funext fun k => pay4_at m c t o ho hb h3 h4 (ix2 r k) (ix2 y k) e0 rfl

theorem sA1 (c : Dev nD) (t : Fin cfg0.N) (h0 : t.val % 11 = 0) (h1 : ¬1 ≤ t.val % 11) (h2 : ¬t.val % 11 = 10) (y : S512x2048.Idx) :
    (outsAt0 m c t.val t.isLt).2.2 y = blockSum (hrow m c t (y 0)) (bwg m c t) (bwu m c t) (bwd m c t) (y 1) := by
  rw [outsAt0_A m c t h0 h1 h2]
  dsimp only
  frame_out
  canon_tiles x h
  · refine (congrArg (k0_pay1 _ _ _) (ValueIdx.eq_ix2 x)).trans ?_
    refine Eq.trans (b := blockSum (hrow m c t (y 0)) (bwg m c t) (bwu m c t) (bwd m c t) (x 1)) ?_ (congrArg (blockSum _ _ _ _) (Fin.ext h1.symm))
    refine Eq.trans ?_ (units_add _ _ _ _ _)
    refine (pay1_apply _ _ _ _ _ _ _ (pay14_eq _ _ _ _) _ _ _ _ _ _ _ _).trans ?_
    exact congrArg (fun h => units h _ _ _ _ + units h _ _ _ _) (hrow_at m c t 256 (by omega) _ _ _ (x 0) (y 0) h0)
  · refine (congrArg (k0_pay8 _ _ _ _ _ _ _) (ValueIdx.eq_ix2 x)).trans ?_
    refine Eq.trans (b := blockSum (hrow m c t (y 0)) (bwg m c t) (bwu m c t) (bwd m c t) (x 1)) ?_ (congrArg (blockSum _ _ _ _) (Fin.ext h1.symm))
    refine Eq.trans ?_ (units_add _ _ _ _ _)
    refine (pay8_apply _ _ _ _ _ rfl _ _ _ _ _ _ _ _).trans ?_
    exact congrArg (fun h => units h _ _ _ _ + units h _ _ _ _) (hrow_at m c t 0 (by omega) _ _ _ (x 0) (y 0) (h0.trans (Nat.zero_add _).symm))

/-- A later point's update of the sums, over contents named apart. -/
theorem pay2_upd (A A' : Vec Ideal S512x2048 .f32) (H H' : Vec Ideal S512x2048 .bf16) (eA : A' = A) (eH : H' = H)
    (wg wu : Vec Ideal S2048x512 .bf16) (wd : Vec Ideal S512x2048 .bf16) (r : Fin 512) (n : Fin 2048) :
    k0_pay2 A' H' (View.ld wg (Rect.unit ![0, 0] ![2048, 256] inb_S2048x512_S2048x256_0_0)) (View.ld wu (Rect.unit ![0, 0] ![2048, 256] inb_S2048x512_S2048x256_0_0))
        (View.ld wd (Rect.unit ![0, 0] ![256, 2048] inb_S512x2048_S256x2048_0_0))
        (View.ld wg (Rect.unit ![0, 256] ![2048, 256] inb_S2048x512_S2048x256_0_256)) (View.ld wu (Rect.unit ![0, 256] ![2048, 256] inb_S2048x512_S2048x256_0_256))
        (View.ld wd (Rect.unit ![256, 0] ![256, 2048] inb_S512x2048_S256x2048_256_0)) (ix2 r n)
      = A (ix2 r n) + blockSum (fun k => H (ix2 r k)) wg wu wd n := by
  subst eA eH
  rw [pay2_apply, units_add]

theorem sB1 (c : Dev nD) (t : Fin cfg0.N) (h0 : ¬t.val % 11 = 0) (h1 : 1 ≤ t.val % 11) (h2 : ¬t.val % 11 = 10) (hp : t.val - 1 < cfg0.N) (r : Fin 512) (n : Fin 2048) :
    (outsAt0 m c t.val t.isLt).2.2 (ix2 r n) = (outsAt0 m c (t.val - 1) hp).2.2 (ix2 r n)
      + blockSum (fun k => (outsAt0 m c (t.val - 1) hp).2.1 (ix2 r k)) (bwg m c t) (bwu m c t) (bwd m c t) n := by
  rw [outsAt0_B m c t h0 h1 h2]
  dsimp only
  frame_out
  exact pay2_upd _ _ _ _ (Memref.IsWhole.read_unread _ _) (Memref.IsWhole.read_unread _ _) (bwg m c t) (bwu m c t) (bwd m c t) r n

theorem sB0 (c : Dev nD) (t : Fin cfg0.N) (h0 : ¬t.val % 11 = 0) (h1 : 1 ≤ t.val % 11) (h2 : ¬t.val % 11 = 10) (hp : t.val - 1 < cfg0.N) :
    (outsAt0 m c t.val t.isLt).2.1 = (outsAt0 m c (t.val - 1) hp).2.1 := by
  rw [outsAt0_B m c t h0 h1 h2]
  rfl

theorem sC (c : Dev nD) (t : Fin cfg0.N) (h0 : ¬t.val % 11 = 0) (h1 : 1 ≤ t.val % 11) (h2 : t.val % 11 = 10) (hp : t.val - 1 < cfg0.N) (r : Fin 512) (n : Fin 2048) :
    (outsAt0 m c t.val t.isLt).1 (ix2 r n) = bx m c t (ix2 r n) + bm m c t (ix3 0 5 n) * ((outsAt0 m c (t.val - 1) hp).2.2 (ix2 r n)
      + blockSum (fun k => (outsAt0 m c (t.val - 1) hp).2.1 (ix2 r k)) (bwg m c t) (bwu m c t) (bwd m c t) n) := by
  rw [outsAt0_C m c t h0 h1 h2]
  dsimp only
  frame_out
  rw [pay3_apply]
  refine congrArg₂ (fun a b => bx m c t (ix2 r n) + a * b) (ld_mod (bm m c t) 5 (by omega) _ n) ?_
  exact pay2_upd _ _ _ _ (Memref.IsWhole.read_unread _ _) (Memref.IsWhole.read_unread _ _) (bwg m c t) (bwu m c t) (bwd m c t) r n

/-! ## All the points -/

/-- The array's row that a row of a point's block is. -/
def rowOf (t : Fin cfg0.N) (r : Fin 512) : Fin 16384 := ⟨t.val / 11 * 512 + r.val, by have := t_lt t; omega⟩

/-- The normalised row of the array, from the arguments. -/
def hidM (c : Dev nD) (R : Fin 16384) : Fin 2048 → EReal :=
  hid (m ((c.tc : Thread nD τ).loc main_arg0)) (m ((c.tc : Thread nD τ).loc main_arg1)) (m ((c.tc : Thread nD τ).loc main_arg2)) R

/-- What one hidden unit gives to an entry, from the arguments. -/
def unitM (c : Dev nD) (R : Fin 16384) (n : Fin 2048) : ℕ → EReal :=
  unitN (hidM m c R) (m ((c.tc : Thread nD τ).loc main_arg3)) (m ((c.tc : Thread nD τ).loc main_arg4)) (m ((c.tc : Thread nD τ).loc main_arg5)) n

theorem batch_row (t : Fin cfg0.N) (r : Fin 512) : (⟨t.val / 11 / 16, by have := t_lt t; omega⟩ : Fin 2) = batch (rowOf t r) :=
  Fin.ext (by show t.val / 11 / 16 = (t.val / 11 * 512 + r.val) / 8192; omega)

theorem hrow_eq (c : Dev nD) (t : Fin cfg0.N) (r : Fin 512) : hrow m c t r = hidM m c (rowOf t r) := by
  unfold hrow hidM hid
  rw [funext (bx_apply m c t r), funext (bg_apply m c t), funext (bm_apply m c t 4), funext (bm_apply m c t 3), batch_row t r]
  rfl

theorem blockSum_eq (c : Dev nD) (t : Fin cfg0.N) (R : Fin 16384) (n : Fin 2048) :
    blockSum (hidM m c R) (bwg m c t) (bwu m c t) (bwd m c t) n = ∑ q ∈ Finset.range 512, unitM m c R n (t.val % 11 * 512 + q) := by
  refine Eq.trans ?_ (Finset.sum_range fun q => unitM m c R n (t.val % 11 * 512 + q)).symm
  refine Finset.sum_congr rfl fun q _ => ?_
  have hq : t.val % 11 * 512 + q.val < 5632 := by omega
  refine Eq.trans ?_ (dif_pos hq).symm
  unfold unit
  rw [funext fun k => bwg_apply m c t k q, funext fun k => bwu_apply m c t k q, bwd_apply m c t q n]

/-- What the points of a row block leave before the last of them: the normalised rows, and the sum over the hidden units so far. -/
theorem state (c : Dev nD) : ∀ (j : ℕ) (hj : j < 10) (t : Fin cfg0.N) (ht : t.val % 11 = j),
    (∀ r k, (outsAt0 m c t.val t.isLt).2.1 (ix2 r k) = hidM m c (rowOf t r) k)
    ∧ ∀ r n, (outsAt0 m c t.val t.isLt).2.2 (ix2 r n) = ∑ q ∈ Finset.range ((j + 1) * 512), unitM m c (rowOf t r) n q
  | 0, _, t, ht => by
    have hn : ¬1 ≤ t.val % 11 := by omega
    have hm : ¬t.val % 11 = 10 := by omega
    refine ⟨fun r k => (sA0 m c t ht hn hm (ix2 r k)).trans (congrFun (hrow_eq m c t r) k), fun r n => (sA1 m c t ht hn hm (ix2 r n)).trans ?_⟩
    show blockSum (hrow m c t r) _ _ _ n = _
    rw [hrow_eq, blockSum_eq, ht]
    exact Finset.sum_congr rfl fun q _ => congrArg _ (by omega)
  | j + 1, hj, t, ht => by
    have h0 : ¬t.val % 11 = 0 := by omega
    have h1 : 1 ≤ t.val % 11 := by omega
    have hm : ¬t.val % 11 = 10 := by omega
    have hp : t.val - 1 < cfg0.N := lt_of_le_of_lt (Nat.sub_le _ _) t.isLt
    obtain ⟨ih0, ih1⟩ := state c j (by omega) ⟨t.val - 1, hp⟩ (by show (t.val - 1) % 11 = j; omega)
    have hr : ∀ r, rowOf ⟨t.val - 1, hp⟩ r = rowOf t r := fun r => Fin.ext (by show (t.val - 1) / 11 * 512 + r.val = t.val / 11 * 512 + r.val; omega)
    refine ⟨fun r k => (congrFun (sB0 m c t h0 h1 hm hp) (ix2 r k)).trans ((ih0 r k).trans (by rw [hr r])), fun r n => (sB1 m c t h0 h1 hm hp r n).trans ?_⟩
    rw [funext (ih0 r), ih1 r n, hr r, blockSum_eq, ht, show (j + 1 + 1) * 512 = (j + 1) * 512 + 512 from by omega, Finset.sum_range_add]

/-- What the last point of a row block writes out. -/
theorem out_eq (c : Dev nD) (t : Fin cfg0.N) (ht : t.val % 11 = 10) (r : Fin 512) (n : Fin 2048) :
    (outsAt0 m c t.val t.isLt).1 (ix2 r n) = ffnOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (rowOf t r) n := by
  have h0 : ¬t.val % 11 = 0 := by omega
  have h1 : 1 ≤ t.val % 11 := by omega
  have hp : t.val - 1 < cfg0.N := lt_of_le_of_lt (Nat.sub_le _ _) t.isLt
  obtain ⟨ih0, ih1⟩ := state m c 9 (by omega) ⟨t.val - 1, hp⟩ (by show (t.val - 1) % 11 = 9; omega)
  have hr : ∀ r, rowOf ⟨t.val - 1, hp⟩ r = rowOf t r := fun r => Fin.ext (by show (t.val - 1) / 11 * 512 + r.val = t.val / 11 * 512 + r.val; omega)
  have hs : ∑ q ∈ Finset.range ((9 + 1) * 512 + 512), unitM m c (rowOf t r) n q
      = ∑ q, unit (hidM m c (rowOf t r)) (m ((c.tc : Thread nD τ).loc main_arg3)) (m ((c.tc : Thread nD τ).loc main_arg4)) (m ((c.tc : Thread nD τ).loc main_arg5)) n q :=
    (Finset.sum_range _).trans (Finset.sum_congr rfl fun q _ => dif_pos q.isLt)
  rw [sC m c t h0 h1 ht hp r n, funext (ih0 r), ih1 r n, hr r, blockSum_eq, ht, ← Finset.sum_range_add, bx_apply, bm_apply, batch_row t r]
  rw [show (10 * 512 : ℕ) = (9 + 1) * 512 from rfl, hs]
  rfl

/-- The array the call ends with. -/
theorem result (c : Dev nD) (R : Fin 16384) (n : Fin 2048) :
    G6 m c (ix2 R n) = ffnOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) R n := by
  have hv : pt6Of (ix2 R n) = 11 * (R.val / 512) + 10 := by
    show 11 * (1 * (R.val / 512 - 0) + 1 * (n.val / 2048 - 0)) + 10 = _
    omega
  have hlt : pt6Of (ix2 R n) < cfg0.N := lt_of_lt_of_eq (by omega : pt6Of (ix2 R n) < 352) (show (352 : ℕ) = cfg0.N from N_0.symm)
  refine (dif_pos hlt).trans ?_
  rw [← outsAt0_sweep m c (pt6Of (ix2 R n)) hlt]
  have hl : loc6Of (ix2 R n) = ix2 (⟨R.val % 512, Nat.mod_lt _ (by decide)⟩ : Fin 512) n := funext fun a => Fin.ext (by
    match a with
    | ⟨0, _⟩ => rfl
    | ⟨1, _⟩ => show n.val % 2048 = n.val; omega)
  rw [hl]
  refine (out_eq m c ⟨pt6Of (ix2 R n), hlt⟩ (by show pt6Of (ix2 R n) % 11 = 10; omega) _ n).trans ?_
  rw [show rowOf ⟨pt6Of (ix2 R n), hlt⟩ ⟨R.val % 512, Nat.mod_lt _ (by decide)⟩ = R from Fin.ext (by
    show pt6Of (ix2 R n) / 11 * 512 + R.val % 512 = R.val; omega)]

end Cert.FfnIdeal.Ffn

end
-- ==== Proof.FfnRef.lean ====
/- The feed-forward reference over the extended reals, entry by entry, from its arguments. -/
module

public import proofs.«01_k».proof.Proof.Gen.FfnRefIdeal.Read
public import proofs.«01_k».proof.Proof.FfnPay
public import Idealize.ShloMosaic.Lib.ValueIdx

@[expose] public section

set_option maxRecDepth 16384

noncomputable section

namespace Cert.FfnRefIdeal.Ffn

open Cert.FfnRefIdeal Cert.FfnRefIdeal.Read Idealize.ShloMosaic
open Cert.FfnIdeal.Ffn (batch hid unit ffnOut modNorm glu)

open scoped BigOperators

variable (x0 : Vec Ideal S16384x2048 .f32) (x1 : Vec Ideal S2x6x2048 .f32) (x2 : Vec Ideal S1x2048 .f32) (x3 x4 : Vec Ideal S1x2048x5632 .f32) (x5 : Vec Ideal S1x5632x2048 .f32)

/-- The row that a place of a batch is. -/
def row (b : Fin 2) (l : Fin 8192) : Fin 16384 := ⟨b.val * 8192 + l.val, by omega⟩

theorem batch_row (b : Fin 2) (l : Fin 8192) : batch (row b l) = b := Fin.ext (by show (b.val * 8192 + l.val) / 8192 = b.val; omega)

theorem v0_at (b : Fin 2) (l : Fin 8192) (k : Fin 2048) : val_main_v0 (F := Ideal) x0 (ix3 b l k) = x0 (ix2 (row b l) k) :=
  (val_main_v0_apply x0 _).trans (congrArg x0 (funext fun a => Fin.ext (by
    match a with
    | ⟨0, _⟩ => show ((b.val * 8192 + l.val) * 2048 + k.val) / 2048 = b.val * 8192 + l.val; omega
    | ⟨1, _⟩ => show ((b.val * 8192 + l.val) * 2048 + k.val) % 2048 = k.val; omega)))

theorem v5_at (b : Fin 2) (l : Fin 8192) : val_main_v5 (F := Ideal) x0 (ix2 b l) = ∑ k, x0 (ix2 (row b l) k) * x0 (ix2 (row b l) k) := by
  refine (val_main_v5_apply x0 _).trans ((congrArg (· + _) Ideal.ofBits_zero_f32).trans ((zero_add _).trans (Finset.sum_congr rfl fun k _ => ?_)))
  rw [ValueIdx.eq_ix3 (idx_main_v5 (ix2 b l) k)]
  exact congrArg₂ (fun p q : EReal => p * q) (v0_at x0 b l k) (v0_at x0 b l k)

theorem v12_at (b : Fin 2) (l : Fin 8192) (k : Fin 2048) : val_main_v12 (F := Ideal) x0 (ix3 b l k)
    = Ideal.rsqrt (Ideal.div (∑ k, x0 (ix2 (row b l) k) * x0 (ix2 (row b l) k)) (Ideal.ofBits .f32 0x45000000#32) + Ideal.ofBits .f32 0x358637BD#32) := by
  refine (val_main_v12_apply x0 _).trans (congrArg Ideal.rsqrt ?_)
  refine congrArg₂ (fun p q : EReal => p + q) (congrArg₂ Ideal.div ?_ (val_main_v7_apply (F := Ideal) _)) (val_main_v9_apply (F := Ideal) _)
  refine (val_main_v6_apply x0 _).trans ?_
  rw [ValueIdx.eq_ix2 (idx_main_v6 _)]
  exact v5_at x0 b l

theorem v16_at (b : Fin 2) (l : Fin 8192) (k : Fin 2048) : val_main_v16 (F := Ideal) x2 (ix3 b l k) = x2 (ix2 0 k) := by
  refine (val_main_v16_apply x2 _).trans ((val_main_v15_apply x2 _).trans ((val_main_v14_apply x2 _).trans (congrArg x2 (funext fun a => Fin.ext ?_))))
  match a with
  | ⟨0, _⟩ => rfl
  | ⟨1, _⟩ => show k.val % 2048 = k.val; omega

theorem v20_at (b : Fin 2) (l : Fin 8192) (k : Fin 2048) : val_main_v20 (F := Ideal) x1 (ix3 b l k) = Ideal.ofBits .f32 0x3F800000#32 + x1 (ix3 b 4 k) := by
  refine (val_main_v20_apply x1 _).trans (congrArg₂ (fun p q : EReal => p + q) (val_main_v18_apply (F := Ideal) _) ((val_main_v2_apply x1 _).trans (congrArg x1 ?_)))
  exact ValueIdx.eq_ix3 _

theorem v22_at (b : Fin 2) (l : Fin 8192) (k : Fin 2048) : val_main_v22 (F := Ideal) x1 (ix3 b l k) = x1 (ix3 b 3 k) :=
  (val_main_v22_apply x1 _).trans ((val_main_v1_apply x1 _).trans (congrArg x1 (ValueIdx.eq_ix3 _)))

theorem v32_at (b : Fin 2) (l : Fin 8192) (k : Fin 2048) : val_main_v32 (F := Ideal) x1 (ix3 b l k) = x1 (ix3 b 5 k) :=
  (val_main_v32_apply x1 _).trans ((val_main_v3_apply x1 _).trans (congrArg x1 (ValueIdx.eq_ix3 _)))

theorem v23_at (b : Fin 2) (l : Fin 8192) (k : Fin 2048) : val_main_v23 (F := Ideal) x0 x1 x2 (ix3 b l k) = hid x0 x1 x2 (row b l) k := by
  show (val_main_v0 (F := Ideal) x0 (ix3 b l k) * val_main_v12 (F := Ideal) x0 (ix3 b l k)) * val_main_v16 (F := Ideal) x2 (ix3 b l k) * val_main_v20 (F := Ideal) x1 (ix3 b l k)
    + val_main_v22 (F := Ideal) x1 (ix3 b l k) = _
  rw [v0_at, v12_at, v16_at, v20_at, v22_at]
  unfold hid modNorm
  rw [batch_row]

theorem v24_at (k : Fin 2048) (q : Fin 5632) : val_main_v24 (F := Ideal) x3 (ix2 k q) = x3 (ix3 0 k q) :=
  (val_main_v24_apply x3 _).trans (congrArg x3 (funext fun a => Fin.ext (by
    match a with
    | ⟨0, _⟩ => rfl
    | ⟨1, _⟩ => show (k.val * 5632 + q.val) / 5632 % 2048 = k.val; omega
    | ⟨2, _⟩ => show (k.val * 5632 + q.val) % 5632 = q.val; omega)))

theorem v30_at (q : Fin 5632) (n : Fin 2048) : val_main_v30 (F := Ideal) x5 (ix2 q n) = x5 (ix3 0 q n) :=
  (val_main_v30_apply x5 _).trans (congrArg x5 (funext fun a => Fin.ext (by
    match a with
    | ⟨0, _⟩ => rfl
    | ⟨1, _⟩ => show (q.val * 2048 + n.val) / 2048 % 5632 = q.val; omega
    | ⟨2, _⟩ => show (q.val * 2048 + n.val) % 2048 = n.val; omega)))

theorem v25_at (b : Fin 2) (l : Fin 8192) (q : Fin 5632) : val_main_v25 (F := Ideal) x0 x1 x2 x3 (ix3 b l q) = ∑ k, hid x0 x1 x2 (row b l) k * x3 (ix3 0 k q) := by
  refine (val_main_v25_apply x0 x1 x2 x3 _).trans (Finset.sum_congr rfl fun k _ => ?_)
  rw [ValueIdx.eq_ix3 (lidx_main_v25 _ k), ValueIdx.eq_ix2 (ridx_main_v25 _ k)]
  exact congrArg₂ (fun p q : EReal => p * q) (v23_at x0 x1 x2 b l k) (v24_at x3 k q)

theorem v28_at (b : Fin 2) (l : Fin 8192) (q : Fin 5632) : val_main_v28 (F := Ideal) x0 x1 x2 x4 (ix3 b l q) = ∑ k, hid x0 x1 x2 (row b l) k * x4 (ix3 0 k q) :=
  v25_at x0 x1 x2 x4 b l q

theorem sig_at (b : Fin 2) (l : Fin 8192) (q : Fin 5632) : val_main_call0_v5 (F := Ideal) x0 x1 x2 x3 (ix3 b l q) = Ideal.logistic (val_main_v25 (F := Ideal) x0 x1 x2 x3 (ix3 b l q)) := by
  refine congrArg₂ Ideal.div ((val_main_call0_v4_apply (F := Ideal) _).trans Ideal.ofBits_one_f32) ?_
  exact congrArg (· + _) ((val_main_call0_v2_apply (F := Ideal) _).trans Ideal.ofBits_one_f32)

theorem v29_at (b : Fin 2) (l : Fin 8192) (q : Fin 5632) : val_main_v29 (F := Ideal) x0 x1 x2 x3 x4 (ix3 b l q)
    = glu (hid x0 x1 x2 (row b l)) (fun k => x3 (ix3 0 k q)) (fun k => x4 (ix3 0 k q)) := by
  show val_main_v25 (F := Ideal) x0 x1 x2 x3 (ix3 b l q) * val_main_call0_v5 (F := Ideal) x0 x1 x2 x3 (ix3 b l q) * val_main_v28 (F := Ideal) x0 x1 x2 x4 (ix3 b l q) = _
  rw [sig_at, v25_at, v28_at]
  rfl

theorem v31_at (b : Fin 2) (l : Fin 8192) (n : Fin 2048) : val_main_v31 (F := Ideal) x0 x1 x2 x3 x4 x5 (ix3 b l n) = ∑ q, unit (hid x0 x1 x2 (row b l)) x3 x4 x5 n q := by
  refine (val_main_v31_apply x0 x1 x2 x3 x4 x5 _).trans (Finset.sum_congr rfl fun q _ => ?_)
  rw [ValueIdx.eq_ix3 (lidx_main_v31 _ q), ValueIdx.eq_ix2 (ridx_main_v31 _ q)]
  exact congrArg₂ (fun p q : EReal => p * q) (v29_at x0 x1 x2 x3 x4 b l q) (v30_at x5 q n)

theorem v34_at (b : Fin 2) (l : Fin 8192) (n : Fin 2048) : val_main_v34 (F := Ideal) x0 x1 x2 x3 x4 x5 (ix3 b l n) = ffnOut x0 x1 x2 x3 x4 x5 (row b l) n := by
  show val_main_v0 (F := Ideal) x0 (ix3 b l n) + val_main_v32 (F := Ideal) x1 (ix3 b l n) * val_main_v31 (F := Ideal) x0 x1 x2 x3 x4 x5 (ix3 b l n) = _
  rw [v0_at, v32_at, v31_at]
  unfold ffnOut
  rw [batch_row]

/-- The reference's result, at an index. -/
theorem result (R : Fin 16384) (n : Fin 2048) : val_main_v35 (F := Ideal) x0 x1 x2 x3 x4 x5 (ix2 R n) = ffnOut x0 x1 x2 x3 x4 x5 R n := by
  have hi : idx_main_v35 (ix2 R n) = ix3 (⟨R.val / 8192, by omega⟩ : Fin 2) (⟨R.val % 8192, by omega⟩ : Fin 8192) n := funext fun a => Fin.ext (by
    match a with
    | ⟨0, _⟩ => show (R.val * 2048 + n.val) / 16777216 = R.val / 8192; omega
    | ⟨1, _⟩ => show (R.val * 2048 + n.val) / 2048 % 8192 = R.val % 8192; omega
    | ⟨2, _⟩ => show (R.val * 2048 + n.val) % 2048 = n.val; omega)
  refine (val_main_v35_apply x0 x1 x2 x3 x4 x5 _).trans ?_
  rw [hi, v34_at]
  exact congrArg (fun R => ffnOut x0 x1 x2 x3 x4 x5 R n) (Fin.ext (by show R.val / 8192 * 8192 + R.val % 8192 = R.val; omega))

end Cert.FfnRefIdeal.Ffn

end
-- ==== Proof.FfnAlg.lean ====
/- The feed-forward call: the frame of its reference, and that both leave the same result over the extended reals. -/
module

public import proofs.«01_k».proof.Defs
public import proofs.«01_k».proof.Proof.FfnVal
public import proofs.«01_k».proof.Proof.FfnRef
public import proofs.«01_k».proof.Proof.Gen.FfnRefIdeal.Run
public import Idealize.ShloMosaic.Lib.Claim

@[expose] public section

set_option maxRecDepth 16384

noncomputable section

namespace Cert.Ffn2

open Idealize.ShloMosaic Idealize.ShloMosaic.TcCoe Idealize.SL.Sem

instance factsI : Cert.FfnIdeal.Facts := Cert.FfnIdeal.Gen.facts
instance factsR : Cert.FfnRefIdeal.Facts := Cert.FfnRefIdeal.Gen.facts

theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run m ρ)

theorem algebraic : Cert.algebraic_FfnIdeal_FfnRefIdeal := by
  pair_intro
  · run_from Cert.FfnIdeal.Value.run m g
  · run_from Cert.FfnRefIdeal.Value.run m' g'
    obtain ⟨e0, e1, e2, e3, e4, e5⟩ := hagree c
    rw [Cert.FfnRefIdeal.Read.val_main_v35_eq m' c, e0, e1, e2, e3, e4, e5]
    funext i
    rw [ValueIdx.eq_ix2 i]
    exact (Cert.FfnRefIdeal.Ffn.result _ _ _ _ _ _ (i 0) (i 1)).trans (Cert.FfnIdeal.Ffn.result m c (i 0) (i 1)).symm

end Cert.Ffn2

end
-- ==== Proof.MergeVal.lean ====
/- The merging call over the extended reals: the array it ends with, entry by entry, from its arguments. -/
module

public import proofs.«01_k».proof.Proof.Gen.MergeIdeal.Value
public import Idealize.ShloMosaic.Lib.Pointwise
public import Idealize.ShloMosaic.Lib.ValueIdx
public import Idealize.ShloMosaic.Lib.IdealHost
public import Idealize.ShloMosaic.Lib.Pipeline.ValueKit

@[expose] public section

set_option maxRecDepth 16384

noncomputable section

namespace Cert.MergeIdeal.Merge

open Cert.MergeIdeal Cert.MergeIdeal.Gen Cert.MergeIdeal.Value Idealize.ShloMosaic Idealize.ShloMosaic.TcCoe Idealize.SL.Sem

open scoped BigOperators

/-- An entry of the gated sum of the two projected branches. -/
def gated (gh ga : EReal) (yh ya wh wa : Fin 1024 → EReal) : EReal := gh * ∑ j, yh j * wh j + ga * ∑ j, ya j * wa j

/-- The batch a row belongs to. -/
def batch (R : Fin 16384) : Fin 2 := ⟨R.val / 8192, by omega⟩

/-- The two branches of a row, each projected and gated, at a column. -/
def mixed (x0 x1 : Vec Ideal S16384x1024 .bf16) (x2 : Vec Ideal S16384x10240 .bf16) (x3 x4 : Vec Ideal S1x1024x2048 .f32) (R : Fin 16384) (k : Fin 2048) : EReal :=
  gated (x2 (ix2 R (⟨6144 + k.val, by omega⟩ : Fin 10240))) (x2 (ix2 R (⟨8192 + k.val, by omega⟩ : Fin 10240)))
    (fun j => x0 (ix2 R j)) (fun j => x1 (ix2 R j)) (fun j => x3 (ix3 0 j k)) (fun j => x4 (ix3 0 j k))

/-- An entry of the merging part's result. -/
def mergeOut (x0 x1 : Vec Ideal S16384x1024 .bf16) (x2 : Vec Ideal S16384x10240 .bf16) (x3 x4 : Vec Ideal S1x1024x2048 .f32) (x5 : Vec Ideal S1x2048x2048 .f32)
    (x6 : Vec Ideal S16384x2048 .f32) (x7 : Vec Ideal S2x6x2048 .f32) (R : Fin 16384) (n : Fin 2048) : EReal :=
  x6 (ix2 R n) + x7 (ix3 (batch R) 2 n) * ∑ k, mixed x0 x1 x2 x3 x4 R k * x5 (ix3 0 k n)

theorem pay1_apply (yh : Vec Ideal S512x1024 .bf16) (wh : Vec Ideal S1024x2048 .bf16) (ya : Vec Ideal S512x1024 .bf16) (wa : Vec Ideal S1024x2048 .bf16)
    (gh ga : Vec Ideal S512x2048 .bf16) (wo : Vec Ideal S2048x2048 .bf16) (x : Vec Ideal S512x2048 .f32) (g : Vec Ideal S1x1x2048 .f32) (r : Fin 512) (n : Fin 2048) :
    k0_pay1 yh wh ya wa gh ga wo x g (ix2 r n) = x (ix2 r n) + g (ix3 0 0 n)
      * ∑ k, gated (gh (ix2 r k)) (ga (ix2 r k)) (fun j => yh (ix2 r j)) (fun j => ya (ix2 r j)) (fun j => wh (ix2 j k)) (fun j => wa (ix2 j k)) * wo (ix2 k n) := by
  unfold k0_pay1 gated
  pointwise

variable (m : (ℓ : Loc nD τ sig) → Buf (Elt Ideal) ℓ)

/-! ## The blocks -/

def byh (c : Dev nD) (t : Fin cfg0.N) : Vec Ideal S512x1024 .bf16 := iblk m c 0 t
def bya (c : Dev nD) (t : Fin cfg0.N) : Vec Ideal S512x1024 .bf16 := iblk m c 1 t
def bgh (c : Dev nD) (t : Fin cfg0.N) : Vec Ideal S512x2048 .bf16 := iblk m c 2 t
def bga (c : Dev nD) (t : Fin cfg0.N) : Vec Ideal S512x2048 .bf16 := iblk m c 3 t
def bwh (c : Dev nD) (t : Fin cfg0.N) : Vec Ideal S1024x2048 .bf16 := iblk m c 4 t
def bwa (c : Dev nD) (t : Fin cfg0.N) : Vec Ideal S1024x2048 .bf16 := iblk m c 5 t
def bwo (c : Dev nD) (t : Fin cfg0.N) : Vec Ideal S2048x2048 .bf16 := iblk m c 6 t
def bx (c : Dev nD) (t : Fin cfg0.N) : Vec Ideal S512x2048 .f32 := iblk m c 7 t
def bm (c : Dev nD) (t : Fin cfg0.N) : Vec Ideal S1x6x2048 .f32 := iblk m c 8 t

theorem idx_eq : ∀ t : Fin cfg0.N, win0_0.index t = ![t.val, 0] ∧ win0_1.index t = ![t.val, 0] ∧ win0_2.index t = ![t.val, 3] ∧ win0_3.index t = ![t.val, 4]
    ∧ win0_4.index t = ![0, 0] ∧ win0_5.index t = ![0, 0] ∧ win0_6.index t = ![0, 0] ∧ win0_7.index t = ![t.val, 0] ∧ win0_8.index t = ![t.val / 16, 0, 0]
    ∧ win0_9.index t = ![t.val, 0] := by decide +kernel

theorem t_lt (t : Fin cfg0.N) : t.val < 32 := t.isLt

/-- The array's row that a row of a point's block is. -/
def rowOf (t : Fin cfg0.N) (r : Fin 512) : Fin 16384 := ⟨t.val * 512 + r.val, by have := t_lt t; omega⟩

theorem byh_apply (c : Dev nD) (t : Fin cfg0.N) (r : Fin 512) (j : Fin 1024) : byh m c t (ix2 r j) = m ((c.tc : Thread nD τ).loc main_arg0) (ix2 (rowOf t r) j) := by
  unfold byh rowOf
  blk_ext [iblk, V, idx_eq t]

theorem bya_apply (c : Dev nD) (t : Fin cfg0.N) (r : Fin 512) (j : Fin 1024) : bya m c t (ix2 r j) = m ((c.tc : Thread nD τ).loc main_arg1) (ix2 (rowOf t r) j) := by
  unfold bya rowOf
  blk_ext [iblk, V, idx_eq t]

theorem bgh_apply (c : Dev nD) (t : Fin cfg0.N) (r : Fin 512) (k : Fin 2048) :
    bgh m c t (ix2 r k) = m ((c.tc : Thread nD τ).loc main_arg2) (ix2 (rowOf t r) (⟨6144 + k.val, by omega⟩ : Fin 10240)) := by
  unfold bgh rowOf
  blk_ext [iblk, V, idx_eq t]

theorem bga_apply (c : Dev nD) (t : Fin cfg0.N) (r : Fin 512) (k : Fin 2048) :
    bga m c t (ix2 r k) = m ((c.tc : Thread nD τ).loc main_arg2) (ix2 (rowOf t r) (⟨8192 + k.val, by omega⟩ : Fin 10240)) := by
  unfold bga rowOf
  blk_ext [iblk, V, idx_eq t]

theorem bx_apply (c : Dev nD) (t : Fin cfg0.N) (r : Fin 512) (k : Fin 2048) : bx m c t (ix2 r k) = m ((c.tc : Thread nD τ).loc main_arg6) (ix2 (rowOf t r) k) := by
  unfold bx rowOf
  blk_ext [iblk, V, idx_eq t]

theorem bm_apply (c : Dev nD) (t : Fin cfg0.N) (a : Fin 6) (k : Fin 2048) : bm m c t (ix3 0 a k)
    = m ((c.tc : Thread nD τ).loc main_arg7) (ix3 (⟨t.val / 16, by have := t_lt t; omega⟩ : Fin 2) a k) := by
  unfold bm
  blk_ext [iblk, V, idx_eq t]

theorem bwh_blk (c : Dev nD) (t : Fin cfg0.N) (j : Fin 1024) (k : Fin 2048) : bwh m c t (ix2 j k) = V m c main_v1 (ix2 j k) := by
  unfold bwh
  blk_ext [iblk, idx_eq t]

theorem bwa_blk (c : Dev nD) (t : Fin cfg0.N) (j : Fin 1024) (k : Fin 2048) : bwa m c t (ix2 j k) = V m c main_v3 (ix2 j k) := by
  unfold bwa
  blk_ext [iblk, idx_eq t]

theorem bwo_blk (c : Dev nD) (t : Fin cfg0.N) (k : Fin 2048) (n : Fin 2048) : bwo m c t (ix2 k n) = V m c main_v5 (ix2 k n) := by
  unfold bwo
  blk_ext [iblk, idx_eq t]

theorem bwh_apply (c : Dev nD) (t : Fin cfg0.N) (j : Fin 1024) (k : Fin 2048) : bwh m c t (ix2 j k) = m ((c.tc : Thread nD τ).loc main_arg3) (ix3 (0 : Fin 1) j k) := by
  rw [bwh_blk]
  entry_read
  pointwise

theorem bwa_apply (c : Dev nD) (t : Fin cfg0.N) (j : Fin 1024) (k : Fin 2048) : bwa m c t (ix2 j k) = m ((c.tc : Thread nD τ).loc main_arg4) (ix3 (0 : Fin 1) j k) := by
  rw [bwa_blk]
  entry_read
  pointwise

theorem bwo_apply (c : Dev nD) (t : Fin cfg0.N) (k : Fin 2048) (n : Fin 2048) : bwo m c t (ix2 k n) = m ((c.tc : Thread nD τ).loc main_arg5) (ix3 (0 : Fin 1) k n) := by
  rw [bwo_blk]
  entry_read
  pointwise

/-- A load of a whole array is the array. -/
theorem ld_whole {e : EltTy} (a b : ℕ) (x : Vec Ideal ⟨2, ![a, b]⟩ e) (hb) : View.ld x (Rect.unit (s := ⟨2, ![a, b]⟩) ![0, 0] ![a, b] hb) = x :=
  funext fun y => congrArg x (funext fun k => Fin.ext (by
    match k with
    | ⟨0, _⟩ => show 0 + 1 * (y 0).val = (y 0).val; omega
    | ⟨1, _⟩ => show 0 + 1 * (y 1).val = (y 1).val; omega))

theorem ld_mod (x : Vec Ideal S1x6x2048 .f32) (hb) (k : Fin 2048) :
    View.ld x (Rect.unit (s := S1x6x2048) ![0, 2, 0] ![1, 1, 2048] hb) (ix3 0 0 k) = x (ix3 0 2 k) :=
  congrArg x (funext fun b => Fin.ext (by
    match b with
    | ⟨0, _⟩ => rfl
    | ⟨1, _⟩ => rfl
    | ⟨2, _⟩ => show 0 + 1 * k.val = k.val; omega))

/-- What a point writes out, from its blocks. -/
theorem blk_apply (x0 x1 : Vec Ideal S512x1024 .bf16) (x2 x3 : Vec Ideal S512x2048 .bf16) (x4 x5 : Vec Ideal S1024x2048 .bf16) (x6 : Vec Ideal S2048x2048 .bf16)
    (x7 : Vec Ideal S512x2048 .f32) (x8 : Vec Ideal S1x6x2048 .f32) (r : Fin 512) (n : Fin 2048) :
    out0_9 x0 x1 x2 x3 x4 x5 x6 x7 x8 (ix2 r n) = x7 (ix2 r n) + x8 (ix3 0 2 n)
      * ∑ k, gated (x2 (ix2 r k)) (x3 (ix2 r k)) (fun j => x0 (ix2 r j)) (fun j => x1 (ix2 r j)) (fun j => x4 (ix2 j k)) (fun j => x5 (ix2 j k)) * x6 (ix2 k n) := by
  unfold out0_9
  canon_tiles x h
  have e : x = ix2 r n := (ValueIdx.eq_ix2 x).trans (congrArg₂ ix2 (Fin.ext h0.symm) (Fin.ext h1.symm))
  rw [e]
  refine (pay1_apply _ _ _ _ _ _ _ _ _ r n).trans ?_
  rw [show View.ld x0 r0_0 = x0 from ld_whole _ _ x0 _, show View.ld x1 r0_0 = x1 from ld_whole _ _ x1 _, show View.ld x2 r0_2 = x2 from ld_whole _ _ x2 _,
    show View.ld x3 r0_2 = x3 from ld_whole _ _ x3 _, show View.ld x4 r0_1 = x4 from ld_whole _ _ x4 _, show View.ld x5 r0_1 = x5 from ld_whole _ _ x5 _,
    show View.ld x6 r0_3 = x6 from ld_whole _ _ x6 _, show View.ld x7 r0_2 = x7 from ld_whole _ _ x7 _, show View.ld x8 r0_4 (ix3 0 0 n) = x8 (ix3 0 2 n) from ld_mod x8 _ n]

/-- An entry of the result, from the arguments. -/
def outM (c : Dev nD) (R : Fin 16384) (n : Fin 2048) : EReal :=
  mergeOut (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) R n

theorem out_eq (c : Dev nD) (t : Fin cfg0.N) (r : Fin 512) (n : Fin 2048) :
    out0_9 (byh m c t) (bya m c t) (bgh m c t) (bga m c t) (bwh m c t) (bwa m c t) (bwo m c t) (bx m c t) (bm m c t) (ix2 r n) = outM m c (rowOf t r) n := by
  rw [blk_apply, bx_apply, bm_apply, funext (byh_apply m c t r), funext (bya_apply m c t r)]
  simp only [bgh_apply, bga_apply, bwh_apply, bwa_apply, bwo_apply]
  rw [show (⟨t.val / 16, by have := t_lt t; omega⟩ : Fin 2) = batch (rowOf t r) from Fin.ext (by show t.val / 16 = (t.val * 512 + r.val) / 8192; omega)]
  rfl

theorem arr_eq (c : Dev nD) : (dats m 0 c).arrAt 9 cfg0.N = fun i : S16384x2048.Idx => outM m c (i 0) (i 1) := by
  refine (dats m 0 c).arrAt_eq_of_covers 9 _ (by decide +kernel) fun t hf y => ?_
  rw [after0_9]
  blk_simp [idx_eq t]
  have e0 : ((win0_9.blk t).view.emb y 0).val = t.val * 512 + (y 0).val := by blk_simp [idx_eq t]
  have e1 : ((win0_9.blk t).view.emb y 1).val = (y 1).val := by blk_simp [idx_eq t]
  refine (congrArg (out0_9 _ _ _ _ _ _ _ _ _) (ValueIdx.eq_ix2 y)).trans ((out_eq m c t (y 0) (y 1)).trans ?_)
  exact congrArg₂ (outM m c) (Fin.ext e0.symm) (Fin.ext e1.symm)

end Cert.MergeIdeal.Merge

end
-- ==== Proof.MergeRef.lean ====
/- The merging reference over the extended reals, entry by entry, from its arguments. -/
module

public import proofs.«01_k».proof.Proof.Gen.MergeRefIdeal.Read
public import proofs.«01_k».proof.Proof.MergeVal
public import Idealize.ShloMosaic.Lib.ValueIdx

@[expose] public section

set_option maxRecDepth 16384

noncomputable section

namespace Cert.MergeRefIdeal.Merge

open Cert.MergeRefIdeal Cert.MergeRefIdeal.Read Idealize.ShloMosaic
open Cert.MergeIdeal.Merge (batch gated mixed mergeOut)

open scoped BigOperators

variable (x0 x1 : Vec Ideal S16384x1024 .bf16) (x2 : Vec Ideal S16384x10240 .bf16) (x3 x4 : Vec Ideal S1x1024x2048 .f32) (x5 : Vec Ideal S1x2048x2048 .f32)
  (x6 : Vec Ideal S16384x2048 .f32) (x7 : Vec Ideal S2x6x2048 .f32)

/-- The row that a place of a batch is. -/
def row (b : Fin 2) (l : Fin 8192) : Fin 16384 := ⟨b.val * 8192 + l.val, by omega⟩

theorem batch_row (b : Fin 2) (l : Fin 8192) : batch (row b l) = b := Fin.ext (by show (b.val * 8192 + l.val) / 8192 = b.val; omega)

/-- The reshape's index: a place of a batch is a row. -/
theorem idx_row (b : Fin 2) (l : Fin 8192) (k : Fin 2048) : idx_main_v13 (ix3 b l k) = ix2 (row b l) k := funext fun a => Fin.ext (by
  match a with
  | ⟨0, _⟩ => show ((b.val * 8192 + l.val) * 2048 + k.val) / 2048 = b.val * 8192 + l.val; omega
  | ⟨1, _⟩ => show ((b.val * 8192 + l.val) * 2048 + k.val) % 2048 = k.val; omega)

theorem v2_at (R : Fin 16384) (k : Fin 2048) : val_main_v2 (F := Ideal) x2 (ix2 R k) = x2 (ix2 R (⟨6144 + k.val, by omega⟩ : Fin 10240)) := by
  refine (val_main_v2_apply x2 _).trans ((val_main_v1_apply x2 _).trans ((val_main_v0_apply x2 _).trans (congrArg x2 ?_)))
  exact ValueIdx.eq_ix2 _

theorem v3_at (R : Fin 16384) (k : Fin 2048) : val_main_v3 (F := Ideal) x2 (ix2 R k) = x2 (ix2 R (⟨8192 + k.val, by omega⟩ : Fin 10240)) := by
  refine (val_main_v3_apply x2 _).trans ((val_main_v1_apply x2 _).trans ((val_main_v0_apply x2 _).trans (congrArg x2 (funext fun a => Fin.ext ?_))))
  match a with
  | ⟨0, _⟩ => rfl
  | ⟨1, _⟩ => show 6144 + (2048 + k.val) = 8192 + k.val; omega

theorem v6_at (j : Fin 1024) (k : Fin 2048) : val_main_v6 (F := Ideal) x3 (ix2 j k) = x3 (ix3 0 j k) :=
  (val_main_v6_apply x3 _).trans (congrArg x3 (funext fun a => Fin.ext (by
    match a with
    | ⟨0, _⟩ => rfl
    | ⟨1, _⟩ => show (j.val * 2048 + k.val) / 2048 % 1024 = j.val; omega
    | ⟨2, _⟩ => show (j.val * 2048 + k.val) % 2048 = k.val; omega)))

theorem v15_at (k n : Fin 2048) : val_main_v15 (F := Ideal) x5 (ix2 k n) = x5 (ix3 0 k n) :=
  (val_main_v15_apply x5 _).trans (congrArg x5 (funext fun a => Fin.ext (by
    match a with
    | ⟨0, _⟩ => rfl
    | ⟨1, _⟩ => show (k.val * 2048 + n.val) / 2048 % 2048 = k.val; omega
    | ⟨2, _⟩ => show (k.val * 2048 + n.val) % 2048 = n.val; omega)))

theorem v7_at (R : Fin 16384) (k : Fin 2048) : val_main_v7 (F := Ideal) x0 x3 (ix2 R k) = ∑ j, x0 (ix2 R j) * x3 (ix3 0 j k) := by
  refine (val_main_v7_apply x0 x3 _).trans (Finset.sum_congr rfl fun j _ => ?_)
  rw [ValueIdx.eq_ix2 (lidx_main_v7 _ j), ValueIdx.eq_ix2 (ridx_main_v7 _ j)]
  exact congrArg (fun q : EReal => x0 (ix2 R j) * q) (v6_at x3 j k)

theorem v10_at (R : Fin 16384) (k : Fin 2048) : val_main_v10 (F := Ideal) x1 x4 (ix2 R k) = ∑ j, x1 (ix2 R j) * x4 (ix3 0 j k) := v7_at x1 x4 R k

theorem v12_at (R : Fin 16384) (k : Fin 2048) : val_main_v12 (F := Ideal) x0 x1 x2 x3 x4 (ix2 R k) = mixed x0 x1 x2 x3 x4 R k := by
  show val_main_v2 (F := Ideal) x2 (ix2 R k) * val_main_v7 (F := Ideal) x0 x3 (ix2 R k) + val_main_v3 (F := Ideal) x2 (ix2 R k) * val_main_v10 (F := Ideal) x1 x4 (ix2 R k) = _
  rw [v2_at, v3_at, v7_at, v10_at]
  rfl

theorem v16_at (R : Fin 16384) (n : Fin 2048) : val_main_v16 (F := Ideal) x0 x1 x2 x3 x4 x5 (ix2 R n) = ∑ k, mixed x0 x1 x2 x3 x4 R k * x5 (ix3 0 k n) := by
  refine (val_main_v16_apply x0 x1 x2 x3 x4 x5 _).trans (Finset.sum_congr rfl fun k _ => ?_)
  rw [ValueIdx.eq_ix2 (lidx_main_v16 _ k), ValueIdx.eq_ix2 (ridx_main_v16 _ k)]
  exact congrArg₂ (fun p q : EReal => p * q) (v12_at x0 x1 x2 x3 x4 R k) (v15_at x5 k n)

theorem v18_at (b : Fin 2) (l : Fin 8192) (n : Fin 2048) : val_main_v18 (F := Ideal) x7 (ix3 b l n) = x7 (ix3 b 2 n) :=
  (val_main_v18_apply x7 _).trans ((val_main_v14_apply x7 _).trans (congrArg x7 (ValueIdx.eq_ix3 _)))

theorem v20_at (b : Fin 2) (l : Fin 8192) (n : Fin 2048) : val_main_v20 (F := Ideal) x0 x1 x2 x3 x4 x5 x6 x7 (ix3 b l n) = mergeOut x0 x1 x2 x3 x4 x5 x6 x7 (row b l) n := by
  show val_main_v13 (F := Ideal) x6 (ix3 b l n) + val_main_v18 (F := Ideal) x7 (ix3 b l n) * val_main_v17 (F := Ideal) x0 x1 x2 x3 x4 x5 (ix3 b l n) = _
  have e : val_main_v17 (F := Ideal) x0 x1 x2 x3 x4 x5 (ix3 b l n) = val_main_v16 (F := Ideal) x0 x1 x2 x3 x4 x5 (ix2 (row b l) n) :=
    (val_main_v17_apply x0 x1 x2 x3 x4 x5 _).trans (congrArg _ (idx_row b l n))
  rw [val_main_v13_apply, idx_row, v18_at, e, v16_at]
  unfold mergeOut
  rw [batch_row]

/-- The reference's result, at an index. -/
theorem result (R : Fin 16384) (n : Fin 2048) : val_main_v21 (F := Ideal) x0 x1 x2 x3 x4 x5 x6 x7 (ix2 R n) = mergeOut x0 x1 x2 x3 x4 x5 x6 x7 R n := by
  have hi : idx_main_v21 (ix2 R n) = ix3 (⟨R.val / 8192, by omega⟩ : Fin 2) (⟨R.val % 8192, by omega⟩ : Fin 8192) n := funext fun a => Fin.ext (by
    match a with
    | ⟨0, _⟩ => show (R.val * 2048 + n.val) / 16777216 = R.val / 8192; omega
    | ⟨1, _⟩ => show (R.val * 2048 + n.val) / 2048 % 8192 = R.val % 8192; omega
    | ⟨2, _⟩ => show (R.val * 2048 + n.val) % 2048 = n.val; omega)
  refine (val_main_v21_apply x0 x1 x2 x3 x4 x5 x6 x7 _).trans ?_
  rw [hi, v20_at]
  exact congrArg (fun R => mergeOut x0 x1 x2 x3 x4 x5 x6 x7 R n) (Fin.ext (by show R.val / 8192 * 8192 + R.val % 8192 = R.val; omega))

end Cert.MergeRefIdeal.Merge

end
-- ==== Proof.MergeAlg.lean ====
/- The merging call: the frame of its reference, and that both leave the same result over the extended reals. -/
module

public import proofs.«01_k».proof.Defs
public import proofs.«01_k».proof.Proof.MergeVal
public import proofs.«01_k».proof.Proof.MergeRef
public import proofs.«01_k».proof.Proof.Gen.MergeRefIdeal.Run
public import Idealize.ShloMosaic.Lib.Claim

@[expose] public section

set_option maxRecDepth 16384

noncomputable section

namespace Cert.Merge2

open Idealize.ShloMosaic Idealize.ShloMosaic.TcCoe Idealize.SL.Sem

instance factsI : Cert.MergeIdeal.Facts := Cert.MergeIdeal.Gen.facts
instance factsR : Cert.MergeRefIdeal.Facts := Cert.MergeRefIdeal.Gen.facts

theorem frame_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run m ρ)

theorem algebraic : Cert.algebraic_MergeIdeal_MergeRefIdeal := by
  pair_intro
  · run_from Cert.MergeIdeal.Value.run_blocks m g
  · run_from Cert.MergeRefIdeal.Value.run m' g'
    refine Eq.trans ?_ (Cert.MergeIdeal.Merge.arr_eq m c).symm
    rw [Cert.MergeRefIdeal.Read.val_main_v21_eq]
    funext i
    exact (congrArg _ (ValueIdx.eq_ix2 i)).trans (Cert.MergeRefIdeal.Merge.result _ _ _ _ _ _ _ _ (i 0) (i 1))

end Cert.Merge2

end
-- ==== Proof.AdaVal.lean ====
/- The modulating call over the extended reals: the array it ends with, entry by entry, from its arguments. -/
module

public import proofs.«01_k».proof.Proof.Gen.AdaIdeal.Value
public import Idealize.ShloMosaic.Lib.Pointwise
public import Idealize.ShloMosaic.Lib.ValueIdx
public import Idealize.ShloMosaic.Lib.IdealHost
public import Idealize.ShloMosaic.Lib.Pipeline.ValueKit

@[expose] public section

set_option maxRecDepth 16384

noncomputable section

namespace Cert.AdaIdeal.Ada

open Cert.AdaIdeal Cert.AdaIdeal.Gen Cert.AdaIdeal.Value Idealize.ShloMosaic Idealize.ShloMosaic.TcCoe Idealize.SL.Sem

open scoped BigOperators

/-- A number times its logistic. -/
def swish (a : EReal) : EReal := a * Ideal.logistic a

/-- An entry of the modulation: a column of the weights against the gated conditioning of a sequence, and the offset. -/
def adaOut (x0 : Vec Ideal S2x2048 .f32) (x1 : Vec Ideal S1x2048x12288 .f32) (x2 : Vec Ideal S1x12288 .f32) (b : Fin 2) (n : Fin 12288) : EReal :=
  ∑ k, swish (x0 (ix2 b k)) * x1 (ix3 0 k n) + x2 (ix2 0 n)

theorem pay2_apply (w : Vec Ideal S2048x512 .f32) (x : Vec Ideal S1x2048x1 .f32) (o : Vec Ideal S1x512 .f32) (n : Fin 512) :
    k0_pay2 w x o (ix3 0 0 n) = ∑ k, w (ix2 k n) * swish (x (ix3 0 k 0)) + o (ix2 0 n) := by
  unfold k0_pay2 k0_pay1 swish
  pointwise

/-- Both sequences are computed alike. -/
theorem pay3_eq (w : Vec Ideal S2048x512 .f32) (x : Vec Ideal S1x2048x1 .f32) (o : Vec Ideal S1x512 .f32) : k0_pay3 w x o = k0_pay2 w x o := rfl

variable (m : (ℓ : Loc nD τ sig) → Buf (Elt Ideal) ℓ)

/-! ## The blocks -/

def bc (c : Dev nD) (t : Fin cfg0.N) : Vec Ideal S2x2048x1 .f32 := iblk m c 0 t
def bw (c : Dev nD) (t : Fin cfg0.N) : Vec Ideal S2048x512 .f32 := iblk m c 1 t
def bo (c : Dev nD) (t : Fin cfg0.N) : Vec Ideal S1x512 .f32 := iblk m c 2 t

theorem idx_eq : ∀ t : Fin cfg0.N, win0_0.index t = ![0, 0, 0] ∧ win0_1.index t = ![0, t.val] ∧ win0_2.index t = ![0, t.val]
    ∧ win0_3.index t = ![0, 0, t.val] := by decide +kernel

theorem t_lt (t : Fin cfg0.N) : t.val < 24 := t.isLt

/-- The array's column that a column of a point's block is. -/
def colOf (t : Fin cfg0.N) (n : Fin 512) : Fin 12288 := ⟨t.val * 512 + n.val, by have := t_lt t; omega⟩

theorem bc_blk (c : Dev nD) (t : Fin cfg0.N) (b : Fin 2) (k : Fin 2048) : bc m c t (ix3 b k 0) = V m c main_v2 (ix3 b k 0) := by
  unfold bc
  blk_ext [iblk, idx_eq t]

theorem bw_blk (c : Dev nD) (t : Fin cfg0.N) (k : Fin 2048) (n : Fin 512) : bw m c t (ix2 k n) = V m c main_v0 (ix2 k (colOf t n)) := by
  unfold bw colOf
  blk_ext [iblk, idx_eq t]

theorem bo_blk (c : Dev nD) (t : Fin cfg0.N) (n : Fin 512) : bo m c t (ix2 0 n) = V m c main_v3 (ix2 0 (colOf t n)) := by
  unfold bo colOf
  blk_ext [iblk, idx_eq t]

theorem bc_apply (c : Dev nD) (t : Fin cfg0.N) (b : Fin 2) (k : Fin 2048) : bc m c t (ix3 b k 0) = m ((c.tc : Thread nD τ).loc main_arg0) (ix2 b k) := by
  rw [bc_blk]
  entry_read
  pointwise

theorem bw_apply (c : Dev nD) (t : Fin cfg0.N) (k : Fin 2048) (n : Fin 512) :
    bw m c t (ix2 k n) = m ((c.tc : Thread nD τ).loc main_arg1) (ix3 (0 : Fin 1) k (colOf t n)) := by
  rw [bw_blk]
  entry_read
  pointwise

theorem bo_apply (c : Dev nD) (t : Fin cfg0.N) (n : Fin 512) : bo m c t (ix2 0 n) = m ((c.tc : Thread nD τ).loc main_arg2) (ix2 (0 : Fin 1) (colOf t n)) := by
  rw [bo_blk]
  entry_read
  pointwise

/-- A load of a whole array is the array. -/
theorem ld_whole {e : EltTy} (a b : ℕ) (x : Vec Ideal ⟨2, ![a, b]⟩ e) (hb) : View.ld x (Rect.unit (s := ⟨2, ![a, b]⟩) ![0, 0] ![a, b] hb) = x :=
  funext fun y => congrArg x (funext fun k => Fin.ext (by
    match k with
    | ⟨0, _⟩ => show 0 + 1 * (y 0).val = (y 0).val; omega
    | ⟨1, _⟩ => show 0 + 1 * (y 1).val = (y 1).val; omega))

/-- A load of one sequence's conditioning. -/
theorem ld_seq (x : Vec Ideal S2x2048x1 .f32) (b : Fin 2) (hb) (k : Fin 2048) :
    View.ld x (Rect.unit (s := S2x2048x1) ![b.val, 0, 0] ![1, 2048, 1] hb) (ix3 0 k 0) = x (ix3 b k 0) :=
  congrArg x (funext fun a => Fin.ext (by
    match a with
    | ⟨0, _⟩ => rfl
    | ⟨1, _⟩ => show 0 + 1 * k.val = k.val; omega
    | ⟨2, _⟩ => rfl))

/-- What a point writes for one sequence, from its blocks. -/
theorem piece_apply (x0 : Vec Ideal S2x2048x1 .f32) (x1 : Vec Ideal S2048x512 .f32) (x2 : Vec Ideal S1x512 .f32) (b b' : Fin 2) (hb) (n : Fin 512) (x : S1x1x512.Idx)
    (h0 : b.val = b'.val + (x 0).val) (x0_lt : (x 0).val < 1) (h2 : n.val = (x 2).val) :
    k0_pay2 x1 (View.ld x0 (Rect.unit (s := S2x2048x1) ![b'.val, 0, 0] ![1, 2048, 1] hb)) x2 x = ∑ k, x1 (ix2 k n) * swish (x0 (ix3 b k 0)) + x2 (ix2 0 n) := by
  have e : x = ix3 0 0 n := (ValueIdx.eq_ix3 x).trans (congr (congrArg₂ ix3 (Subsingleton.elim (α := Fin 1) _ _) (Subsingleton.elim (α := Fin 1) _ _)) (Fin.ext h2.symm))
  have eb : b' = b := Fin.ext (by omega)
  subst eb
  rw [e]
  refine (pay2_apply x1 _ x2 n).trans ?_
  exact congrArg (fun p : EReal => p + _) (Finset.sum_congr rfl fun k _ => congrArg (fun p : EReal => x1 (ix2 k n) * swish p) (ld_seq x0 b' hb k))

/-- What a point writes out, from its blocks. -/
theorem blk_apply (x0 : Vec Ideal S2x2048x1 .f32) (x1 : Vec Ideal S2048x512 .f32) (x2 : Vec Ideal S1x512 .f32) (b : Fin 2) (n : Fin 512) :
    out0_3 x0 x1 x2 (ix3 b 0 n) = ∑ k, x1 (ix2 k n) * swish (x0 (ix3 b k 0)) + x2 (ix2 0 n) := by
  unfold out0_3
  rw [show View.ld x1 r0_0 = x1 from ld_whole _ _ x1 _, show View.ld x2 r0_2 = x2 from ld_whole _ _ x2 _, pay3_eq]
  canon_tiles x h
  · exact piece_apply x0 x1 x2 b 1 _ n x h0 x0_lt h2
  · exact piece_apply x0 x1 x2 b 0 _ n x (h0.trans (Nat.zero_add _).symm) x0_lt h2

/-- An entry of the result, from the arguments. -/
def outA (c : Dev nD) (b : Fin 2) (n : Fin 12288) : EReal :=
  adaOut (m ((c.tc : Thread nD τ).loc main_arg0)) (m ((c.tc : Thread nD τ).loc main_arg1)) (m ((c.tc : Thread nD τ).loc main_arg2)) b n

theorem out_eq (c : Dev nD) (t : Fin cfg0.N) (b : Fin 2) (n : Fin 512) :
    out0_3 (bc m c t) (bw m c t) (bo m c t) (ix3 b 0 n) = outA m c b (colOf t n) := by
  rw [blk_apply, bo_apply]
  simp only [bc_apply, bw_apply]
  unfold outA adaOut
  exact congrArg (fun p : EReal => p + _) (Finset.sum_congr rfl fun k _ => mul_comm (_ : EReal) _)

/-- The array that the call ends with. -/
theorem arr_eq (c : Dev nD) : (dats m 0 c).arrAt 3 cfg0.N = fun i : S2x1x12288.Idx => outA m c (i 0) (i 2) := by
  refine (dats m 0 c).arrAt_eq_of_covers 3 _ (by decide +kernel) fun t hf y => ?_
  rw [after0_3]
  blk_simp [idx_eq t]
  have e0 : ((win0_3.blk t).view.emb y 0).val = (y 0).val := by blk_simp [idx_eq t]
  have e2 : ((win0_3.blk t).view.emb y 2).val = t.val * 512 + (y 2).val := by blk_simp [idx_eq t]
  have ey : y = ix3 (y 0) 0 (y 2) := (ValueIdx.eq_ix3 y).trans (congrArg (fun q => ix3 (y 0) q (y 2)) (Subsingleton.elim (α := Fin 1) _ _))
  refine (congrArg (out0_3 _ _ _) ey).trans ((out_eq m c t (y 0) (y 2)).trans ?_)
  exact congrArg₂ (outA m c) (Fin.ext e0.symm) (Fin.ext e2.symm)

end Cert.AdaIdeal.Ada

end
-- ==== Proof.AdaRef.lean ====
/- The reference of the modulating call over the extended reals: its result, entry by entry, from the arguments. -/
module

public import proofs.«01_k».proof.Proof.Gen.AdaRefIdeal.Read
public import proofs.«01_k».proof.Proof.AdaVal

@[expose] public section

set_option maxRecDepth 16384

noncomputable section

namespace Cert.AdaRefIdeal.Ada

open Cert.AdaRefIdeal Cert.AdaRefIdeal.Gen Cert.AdaRefIdeal.Read Cert.AdaIdeal.Ada Idealize.ShloMosaic Idealize.ShloMosaic.TcCoe Idealize.SL.Sem Idealize.ShloMosaic.StableHlo

open scoped BigOperators

variable (x0 : Vec Ideal S2x2048 .f32) (x1 : Vec Ideal S1x2048x12288 .f32) (x2 : Vec Ideal S1x12288 .f32)

theorem sig_at (b : Fin 2) (k : Fin 2048) : val_main_call0_v5 (F := Ideal) x0 (ix2 b k) = Ideal.logistic (x0 (ix2 b k)) := by
  refine congrArg₂ Ideal.div ((val_main_call0_v4_apply (F := Ideal) _).trans Ideal.ofBits_one_f32) ?_
  exact congrArg (· + _) ((val_main_call0_v2_apply (F := Ideal) _).trans Ideal.ofBits_one_f32)

theorem v0_at (b : Fin 2) (k : Fin 2048) : val_main_v0 (F := Ideal) x0 (ix2 b k) = swish (x0 (ix2 b k)) :=
  congrArg (fun q : EReal => x0 (ix2 b k) * q) (sig_at x0 b k)

theorem v1_at (k : Fin 2048) (n : Fin 12288) : val_main_v1 (F := Ideal) x1 (ix2 k n) = x1 (ix3 0 k n) :=
  (val_main_v1_apply x1 _).trans (congrArg x1 (funext fun a => Fin.ext (by
    match a with
    | ⟨0, _⟩ => rfl
    | ⟨1, _⟩ => show (k.val * 12288 + n.val) / 12288 % 2048 = k.val; omega
    | ⟨2, _⟩ => show (k.val * 12288 + n.val) % 12288 = n.val; omega)))

theorem v2_at (b : Fin 2) (n : Fin 12288) : val_main_v2 (F := Ideal) x0 x1 (ix2 b n) = ∑ k, swish (x0 (ix2 b k)) * x1 (ix3 0 k n) := by
  refine (val_main_v2_apply x0 x1 _).trans (Finset.sum_congr rfl fun k _ => ?_)
  rw [ValueIdx.eq_ix2 (lidx_main_v2 _ k), ValueIdx.eq_ix2 (ridx_main_v2 _ k)]
  exact congrArg₂ (fun p q : EReal => p * q) (v0_at x0 b k) (v1_at x1 k n)

theorem v5_at (b : Fin 2) (n : Fin 12288) : val_main_v5 (F := Ideal) x2 (ix2 b n) = x2 (ix2 0 n) :=
  (val_main_v5_apply x2 _).trans ((val_main_v4_apply x2 _).trans ((val_main_v3_apply x2 _).trans (congrArg x2 (funext fun a => Fin.ext (by
    match a with
    | ⟨0, _⟩ => rfl
    | ⟨1, _⟩ => show n.val % 12288 = n.val; omega)))))

/-- The reference's result, at an index. -/
theorem result (b : Fin 2) (n : Fin 12288) : val_main_v7 (F := Ideal) x0 x1 x2 (ix3 b 0 n) = adaOut x0 x1 x2 b n := by
  refine (val_main_v7_apply x0 x1 x2 _).trans ((congrArg _ (ValueIdx.eq_ix2 _)).trans ?_)
  show val_main_v2 (F := Ideal) x0 x1 (ix2 b n) + val_main_v5 (F := Ideal) x2 (ix2 b n) = _
  rw [v2_at, v5_at]
  rfl

end Cert.AdaRefIdeal.Ada

end
-- ==== Proof.AdaAlg.lean ====
/- The modulating call: the frame of its reference, and that both leave the same result over the extended reals. -/
module

public import proofs.«01_k».proof.Defs
public import proofs.«01_k».proof.Proof.AdaVal
public import proofs.«01_k».proof.Proof.AdaRef
public import proofs.«01_k».proof.Proof.Gen.AdaRefIdeal.Run
public import Idealize.ShloMosaic.Lib.Claim

@[expose] public section

set_option maxRecDepth 16384

noncomputable section

namespace Cert.Ada2

open Idealize.ShloMosaic Idealize.ShloMosaic.TcCoe Idealize.SL.Sem

instance factsI : Cert.AdaIdeal.Facts := Cert.AdaIdeal.Gen.facts
instance factsR : Cert.AdaRefIdeal.Facts := Cert.AdaRefIdeal.Gen.facts

theorem frame_ref : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run m ρ)

theorem algebraic : Cert.algebraic_AdaIdeal_AdaRefIdeal := by
  pair_intro
  · run_from Cert.AdaIdeal.Value.run_blocks m g
  · run_from Cert.AdaRefIdeal.Value.run m' g'
    refine Eq.trans ?_ (Cert.AdaIdeal.Ada.arr_eq m c).symm
    rw [Cert.AdaRefIdeal.Read.val_main_v7_eq]
    funext i
    have ei : i = ix3 (i 0) 0 (i 2) := (ValueIdx.eq_ix3 i).trans (congrArg (fun q => ix3 (i 0) q (i 2)) (Subsingleton.elim (α := Fin 1) _ _))
    exact (congrArg _ ei).trans (Cert.AdaRefIdeal.Ada.result _ _ _ (i 0) (i 2))

end Cert.Ada2

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Frames
public import proofs.«01_k».proof.Proof.Alg
public import proofs.«01_k».proof.Proof.FfnAlg
public import proofs.«01_k».proof.Proof.MergeAlg
public import proofs.«01_k».proof.Proof.AdaAlg

@[expose] public section

noncomputable section

namespace Cert.Proof

open Cert.Attn

theorem claim : Cert.Claim :=
  ⟨Cert.Kernel.Gen.facts, Cert.KernelIdeal.Gen.facts, Cert.ReferenceIdeal.Gen.facts,
    Cert.Ffn.Gen.facts, Cert.FfnIdeal.Gen.facts, Cert.FfnRefIdeal.Gen.facts,
    Cert.Merge.Gen.facts, Cert.MergeIdeal.Gen.facts, Cert.MergeRefIdeal.Gen.facts,
    Cert.Ada.Gen.facts, Cert.AdaIdeal.Gen.facts, Cert.AdaRefIdeal.Gen.facts, factsPre,
    frame_kernel, frame_ideal, fun m ρ _ => frame_ideal m ρ trivial, frame_ref, fun m ρ _ => frame_ref m ρ trivial,
    fun m ρ _ => Cert.Ffn.Gen.frame m ρ, fun m ρ _ => Cert.FfnIdeal.Gen.frame m ρ, Cert.Ffn2.frame_ref,
    fun m ρ _ => Cert.Merge.Gen.frame m ρ, fun m ρ _ => Cert.MergeIdeal.Gen.frame m ρ, Cert.Merge2.frame_ref,
    fun m ρ _ => Cert.Ada.Gen.frame m ρ, fun m ρ _ => Cert.AdaIdeal.Gen.frame m ρ, Cert.Ada2.frame_ref,
    trivial, algebraic, trivial, Cert.Ffn2.algebraic, trivial, Cert.Merge2.algebraic, trivial, Cert.Ada2.algebraic⟩

end Cert.Proof

end
